-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_maximum [hPre_rows_have_a_maximum : Cert.Pre_rows_have_a_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_maximum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_maximum [hPre_rows_have_a_maximum : Cert.Pre_rows_have_a_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_maximum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rows_have_a_maximum [hKernelIdeal : Cert.KernelIdeal.Facts] [hPre_rows_have_a_maximum : Cert.Pre_rows_have_a_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_have_a_maximum [hReferenceIdeal : Cert.ReferenceIdeal.Facts] [hPre_rows_have_a_maximum : Cert.Pre_rows_have_a_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal_pre_rows_have_a_maximum [hKernelIdeal : Cert.KernelIdeal.Facts] [hReferenceIdeal : Cert.ReferenceIdeal.Facts] [hPre_rows_have_a_maximum : Cert.Pre_rows_have_a_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rows_have_a_maximum : Cert.Pre_rows_have_a_maximum.Facts),
    quiescent_Kernel (hKernel := hKernel)
    ∧ quiescent_KernelIdeal (hKernelIdeal := hKernelIdeal)
    ∧ quiescent_KernelIdeal_pre_rows_have_a_maximum (hKernelIdeal := hKernelIdeal) (hPre_rows_have_a_maximum := hPre_rows_have_a_maximum)
    ∧ quiescent_ReferenceIdeal (hReferenceIdeal := hReferenceIdeal)
    ∧ quiescent_ReferenceIdeal_pre_rows_have_a_maximum (hReferenceIdeal := hReferenceIdeal) (hPre_rows_have_a_maximum := hPre_rows_have_a_maximum)
    ∧ preserves_Kernel_KernelIdeal
    ∧ algebraic_KernelIdeal_ReferenceIdeal_pre_rows_have_a_maximum (hKernelIdeal := hKernelIdeal) (hReferenceIdeal := hReferenceIdeal) (hPre_rows_have_a_maximum := hPre_rows_have_a_maximum)
-- ==== Pre_rows_have_a_maximum.lean ====
abbrev S32x576x768 : Shape := ⟨3, ![32, 576, 768]⟩
abbrev S201x5x768 : Shape := ⟨3, ![201, 5, 768]⟩
abbrev S200x5 : Shape := ⟨2, ![200, 5]⟩
abbrev S_ : Shape := ⟨0, ![]⟩
abbrev S200 : Shape := ⟨1, ![200]⟩

class Facts : Prop where
  reducesTo_S200x5_S200_d1 : S200x5.ReducesTo [1] S200
  h_S_ : 0 < S_.numel
  bcast_S_S200 : S_.BroadcastsInDim S200 (![] : Fin 0 → Fin S200.rank)
  reducesTo_S200_S_d0 : S200.ReducesTo [0] S_

variable [Facts]

def fn {F : FTy → Type} [FloatOps F] (main_arg0 : FVec F S32x576x768 .f32) (main_arg1 : FVec F S201x5x768 .f32) (main_arg2 : FVec F S200x5 .f32) : IVec S_ 1 :=
  let main_cst : FVec F S_ .f32 := constant S_ .f32 0xFF800000#32
  let main_v0 : FVec F S200 .f32 := (fun x v => Host.reduce FloatOps.maximumf x v reducesTo_S200x5_S200_d1 h_S_) main_arg2 main_cst
  let main_cst_0 : FVec F S_ .f32 := constant S_ .f32 0xFF800000#32
  let main_v1 : FVec F S200 .f32 := broadcastInDim S200 ![] bcast_S_S200 main_cst_0
  let main_v2 : IVec S200 1 := cmpf .ogt main_v0 main_v1
  let main_cst_1 : FVec F S_ .f32 := constant S_ .f32 0x7F800000#32
  let main_v3 : FVec F S200 .f32 := broadcastInDim S200 ![] bcast_S_S200 main_cst_1
  let main_v4 : IVec S200 1 := cmpf .olt main_v0 main_v3
  let main_v5 : IVec S200 1 := andi main_v2 main_v4
  let main_c : IVec S_ 1 := constantI S_ 1 1#1
  let main_v6 : IVec S_ 1 := (fun x v => Host.reduce IntOp.andi x v reducesTo_S200_S_d0 h_S_) main_v5 main_c
  main_v6
-- ==== Kernel.lean ====
abbrev S32x576x768 : Shape := ⟨3, ![32, 576, 768]⟩
abbrev S201x5x768 : Shape := ⟨3, ![201, 5, 768]⟩
abbrev S200x5 : Shape := ⟨2, ![200, 5]⟩
abbrev S18432x768 : Shape := ⟨2, ![18432, 768]⟩
abbrev S1005x768 : Shape := ⟨2, ![1005, 768]⟩
abbrev S5x200 : Shape := ⟨2, ![5, 200]⟩
abbrev S1005x32x576 : Shape := ⟨3, ![1005, 32, 576]⟩
abbrev S5x32x201 : Shape := ⟨3, ![5, 32, 201]⟩
abbrev S32x200 : Shape := ⟨2, ![32, 200]⟩
abbrev S1024x768 : Shape := ⟨2, ![1024, 768]⟩
abbrev S1152x768 : Shape := ⟨2, ![1152, 768]⟩
abbrev S256x8x576 : Shape := ⟨3, ![256, 8, 576]⟩
abbrev S2x4608x768 : Shape := ⟨3, ![2, 4608, 768]⟩
abbrev S4x1024x8 : Shape := ⟨3, ![4, 1024, 8]⟩
abbrev S1024x1 : Shape := ⟨2, ![1024, 1]⟩
abbrev S1024 : Shape := ⟨1, ![1024]⟩
abbrev S1152 : Shape := ⟨1, ![1152]⟩
abbrev S1152x1 : Shape := ⟨2, ![1152, 1]⟩
abbrev S1x1152x768 : Shape := ⟨3, ![1, 1152, 768]⟩
abbrev S256x768 : Shape := ⟨2, ![256, 768]⟩
abbrev S1x4608x768 : Shape := ⟨3, ![1, 4608, 768]⟩
abbrev S4608x768 : Shape := ⟨2, ![4608, 768]⟩
abbrev S256x4608 : Shape := ⟨2, ![256, 4608]⟩
abbrev S256x8 : Shape := ⟨2, ![256, 8]⟩
abbrev S1x256x8 : Shape := ⟨3, ![1, 256, 8]⟩
abbrev S1x1024x8 : Shape := ⟨3, ![1, 1024, 8]⟩
abbrev S1024x8 : Shape := ⟨2, ![1024, 8]⟩
abbrev S8x1024 : Shape := ⟨2, ![8, 1024]⟩
abbrev S32x1024 : Shape := ⟨2, ![32, 1024]⟩
abbrev S200 : Shape := ⟨1, ![200]⟩
abbrev S1x200 : Shape := ⟨2, ![1, 200]⟩
abbrev S1024x201 : Shape := ⟨2, ![1024, 201]⟩
abbrev S32x201 : Shape := ⟨2, ![32, 201]⟩
abbrev S1x32x201 : Shape := ⟨3, ![1, 32, 201]⟩
abbrev S201x5x32x576 : Shape := ⟨4, ![201, 5, 32, 576]⟩
abbrev S32x576x201x5 : Shape := ⟨4, ![32, 576, 201, 5]⟩
abbrev S32x201x5 : Shape := ⟨3, ![32, 201, 5]⟩

abbrev nBuf : Space → Nat
  | .hbm => 12
  | .vmem => 11
  | .smem => 0
  | _ => 0

abbrev bufTy : (tb : Table) → Fin (tcTables nBuf tb) → BufTy
  | .hbm, ⟨0, _⟩ => ⟨S32x576x768, .f32⟩
  | .hbm, ⟨1, _⟩ => ⟨S201x5x768, .f32⟩
  | .hbm, ⟨2, _⟩ => ⟨S200x5, .f32⟩
  | .hbm, ⟨3, _⟩ => ⟨S18432x768, .f32⟩
  | .hbm, ⟨4, _⟩ => ⟨S1005x768, .f32⟩
  | .hbm, ⟨5, _⟩ => ⟨S5x200, .f32⟩
  | .hbm, ⟨6, _⟩ => ⟨S1005x32x576, .f32⟩
  | .hbm, ⟨7, _⟩ => ⟨S5x32x201, .f32⟩
  | .hbm, ⟨8, _⟩ => ⟨S32x200, .f32⟩
  | .hbm, ⟨9, _⟩ => ⟨S201x5x32x576, .f32⟩
  | .hbm, ⟨10, _⟩ => ⟨S32x576x201x5, .f32⟩
  | .hbm, ⟨11, _⟩ => ⟨S32x201x5, .f32⟩
  | .local _ .vmem, ⟨0, _⟩ => ⟨S1024x768, .f32⟩
  | .local _ .vmem, ⟨1, _⟩ => ⟨S1152x768, .f32⟩
  | .local _ .vmem, ⟨2, _⟩ => ⟨S1152x768, .f32⟩
  | .local _ .vmem, ⟨3, _⟩ => ⟨S5x200, .f32⟩
  | .local _ .vmem, ⟨4, _⟩ => ⟨S256x8x576, .f32⟩
  | .local _ .vmem, ⟨5, _⟩ => ⟨S256x8x576, .f32⟩
  | .local _ .vmem, ⟨6, _⟩ => ⟨S5x32x201, .f32⟩
  | .local _ .vmem, ⟨7, _⟩ => ⟨S32x200, .f32⟩
  | .local _ .vmem, ⟨8, _⟩ => ⟨S2x4608x768, .bf16⟩
  | .local _ .vmem, ⟨9, _⟩ => ⟨S1024x768, .bf16⟩
  | .local _ .vmem, ⟨10, _⟩ => ⟨S4x1024x8, .f32⟩
  | _, _ => ⟨S32x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c4_i32_4 : BitVec 32 := 4#32
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi arg0 c4_i32_4
  let c0_i32_9 : BitVec 32 := 0#32
  let v25 : BitVec 1 := Scalar.cmpi .ne v24 c0_i32_9
  let v26 : BitVec 1 := Scalar.andi v23 v25
  let v12 : BitVec 32 := Scalar.divsi arg0 c4_i32_4
  let c1_i32 : BitVec 32 := 1#32
  let v27 : BitVec 32 := Scalar.subi v12 c1_i32
  let v28 : BitVec 32 := Scalar.select v26 v27 v12
  let c2_i32 : BitVec 32 := 2#32
  let c0_i32_10 : BitVec 32 := 0#32
  let v29 : BitVec 1 := Scalar.cmpi .eq c2_i32 c0_i32_10
  let c1_i32_11 : BitVec 32 := 1#32
  let v30 : BitVec 32 := Scalar.select v29 c1_i32_11 c2_i32
  let v31 : BitVec 32 := Scalar.remsi v28 v30
  let c0_i32_13 : BitVec 32 := 0#32
  let v33 : BitVec 1 := Scalar.cmpi .slt v31 c0_i32_13
  let c0_i32_14 : BitVec 32 := 0#32
  let v34 : BitVec 1 := Scalar.cmpi .slt v30 c0_i32_14
  let v35 : BitVec 1 := Scalar.xori v33 v34
  let c0_i32_12 : BitVec 32 := 0#32
  let v32 : BitVec 1 := Scalar.cmpi .ne v31 c0_i32_12
  let v36 : BitVec 1 := Scalar.andi v35 v32
  let v37 : BitVec 32 := Scalar.addi v31 v30
  let v38 : BitVec 32 := Scalar.select v36 v37 v31
  let v61 : Index := Scalar.indexCast v38
  let c4_i32_17 : BitVec 32 := 4#32
  let c0_i32_18 : BitVec 32 := 0#32
  let v50 : BitVec 1 := Scalar.cmpi .eq c4_i32_17 c0_i32_18
  let c1_i32_19 : BitVec 32 := 1#32
  let v51 : BitVec 32 := Scalar.select v50 c1_i32_19 c4_i32_17
  let v52 : BitVec 32 := Scalar.remsi arg0 v51
  let c0_i32_21 : BitVec 32 := 0#32
  let v54 : BitVec 1 := Scalar.cmpi .slt v52 c0_i32_21
  let c0_i32_22 : BitVec 32 := 0#32
  let v55 : BitVec 1 := Scalar.cmpi .slt v51 c0_i32_22
  let v56 : BitVec 1 := Scalar.xori v54 v55
  let c0_i32_20 : BitVec 32 := 0#32
  let v53 : BitVec 1 := Scalar.cmpi .ne v52 c0_i32_20
  let v57 : BitVec 1 := Scalar.andi v56 v53
  let v58 : BitVec 32 := Scalar.addi v52 v51
  let v59 : BitVec 32 := Scalar.select v57 v58 v52
  let c1152_i32 : BitVec 32 := 1152#32
  let v60 : BitVec 32 := Scalar.muli v59 c1152_i32
  let v62 : Index := Scalar.indexCast v60
  let c0_23 : Index := 0#32
  ![v61.toNat, v62.toNat, 0]
def k0_cond3 (i : grid0.Coords) : BitVec 1 :=
  let arg0 : BitVec 32 := BitVec.ofNat 32 (i 0).val
  let c4_i32 : BitVec 32 := 4#32
  let v6 : BitVec 1 := Scalar.cmpi .sge arg0 c4_i32
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg0 : BitVec 32 := BitVec.ofNat 32 (i 0).val
  let c4_i32_4 : BitVec 32 := 4#32
  let v12 : BitVec 32 := Scalar.subi arg0 c4_i32_4
  let c4_i32_11 : BitVec 32 := 4#32
  let c0_i32_12 : BitVec 32 := 0#32
  let v30 : BitVec 1 := Scalar.cmpi .eq c4_i32_11 c0_i32_12
  let c1_i32_13 : BitVec 32 := 1#32
  let v31 : BitVec 32 := Scalar.select v30 c1_i32_13 c4_i32_11
  let v32 : BitVec 32 := Scalar.remsi v12 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c256_i32 : BitVec 32 := 256#32
  let v40 : BitVec 32 := Scalar.muli v39 c256_i32
  let v41 : Index := Scalar.indexCast v40
  let c0 : Index := 0#32
  ![v41.toNat, 0]
def k0_off3 (i : grid0.Coords) : Fin 3 → Nat :=
  let arg0 : BitVec 32 := BitVec.ofNat 32 (i 0).val
  let c4_i32_4 : BitVec 32 := 4#32
  let v12 : BitVec 32 := Scalar.subi arg0 c4_i32_4
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi v12 c4_i32_5
  let c0_i32_10 : BitVec 32 := 0#32
  let v26 : BitVec 1 := Scalar.cmpi .ne v25 c0_i32_10
  let v27 : BitVec 1 := Scalar.andi v24 v26
  let v13 : BitVec 32 := Scalar.divsi v12 c4_i32_5
  let c1_i32 : BitVec 32 := 1#32
  let v28 : BitVec 32 := Scalar.subi v13 c1_i32
  let v29 : BitVec 32 := Scalar.select v27 v28 v13
  let c2_i32 : BitVec 32 := 2#32
  let c0_i32_17 : BitVec 32 := 0#32
  let v43 : BitVec 1 := Scalar.cmpi .eq c2_i32 c0_i32_17
  let c1_i32_18 : BitVec 32 := 1#32
  let v44 : BitVec 32 := Scalar.select v43 c1_i32_18 c2_i32
  let v45 : BitVec 32 := Scalar.remsi v29 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let v53 : Index := Scalar.indexCast v52
  let c0_22 : Index := 0#32
  let c0_23 : Index := 0#32
  ![v53.toNat, 0, 0]
def k0_off4 (i : grid0.Coords) : Fin 3 → Nat :=
  let arg0 : BitVec 32 := BitVec.ofNat 32 (i 0).val
  let c4_i32_4 : BitVec 32 := 4#32
  let v12 : BitVec 32 := Scalar.subi arg0 c4_i32_4
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi v12 c4_i32_5
  let c0_i32_10 : BitVec 32 := 0#32
  let v26 : BitVec 1 := Scalar.cmpi .ne v25 c0_i32_10
  let v27 : BitVec 1 := Scalar.andi v24 v26
  let v13 : BitVec 32 := Scalar.divsi v12 c4_i32_5
  let c1_i32 : BitVec 32 := 1#32
  let v28 : BitVec 32 := Scalar.subi v13 c1_i32
  let v29 : BitVec 32 := Scalar.select v27 v28 v13
  let v61 : Index := Scalar.indexCast v29
  let c4_i32_11 : BitVec 32 := 4#32
  let c0_i32_12 : BitVec 32 := 0#32
  let v30 : BitVec 1 := Scalar.cmpi .eq c4_i32_11 c0_i32_12
  let c1_i32_13 : BitVec 32 := 1#32
  let v31 : BitVec 32 := Scalar.select v30 c1_i32_13 c4_i32_11
  let v32 : BitVec 32 := Scalar.remsi v12 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c256_i32_28 : BitVec 32 := 256#32
  let v60 : BitVec 32 := Scalar.muli v39 c256_i32_28
  let v62 : Index := Scalar.indexCast v60
  let c0_29 : Index := 0#32
  ![v61.toNat, v62.toNat, 0]
def k0_cond4 (i : grid0.Coords) : BitVec 1 :=
  let arg0 : BitVec 32 := BitVec.ofNat 32 (i 0).val
  let c19_i32 : BitVec 32 := 19#32
  let v9 : BitVec 1 := Scalar.cmpi .eq arg0 c19_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let c0_i32_1 : BitVec 32 := 0#32
  let v2 : BitVec 1 := Scalar.cmpi .eq c4_i32_0 c0_i32_1
  let c1_i32 : BitVec 32 := 1#32
  let v3 : BitVec 32 := Scalar.select v2 c1_i32 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.subi arg0 c4_i32_5
  let c0_i32_6 : BitVec 32 := 0#32
  let v13 : BitVec 32 := Scalar.maxsi v12 c0_i32_6
  let c4_i32_7 : BitVec 32 := 4#32
  let v14 : BitVec 32 := Scalar.divsi v13 c4_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c4_i32_7 c0_i32_10
  let v21 : BitVec 32 := Scalar.extui v20
  let c0_i32_11 : BitVec 32 := 0#32
  let v22 : BitVec 1 := Scalar.cmpi .slt c4_i32_7 c0_i32_11
  let v23 : BitVec 32 := Scalar.extui v22
  let v24 : BitVec 32 := Scalar.subi v21 v23
  let v25 : BitVec 1 := Scalar.cmpi .ne v19 v24
  let v26 : BitVec 32 := Scalar.remsi v13 c4_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x32x201 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S32x576x768 : Shape := ⟨3, ![32, 576, 768]⟩
abbrev S201x5x768 : Shape := ⟨3, ![201, 5, 768]⟩
abbrev S200x5 : Shape := ⟨2, ![200, 5]⟩
abbrev S_ : Shape := ⟨0, ![]⟩
abbrev S32x576 : Shape := ⟨2, ![32, 576]⟩
abbrev S32x576x1 : Shape := ⟨3, ![32, 576, 1]⟩
abbrev S201x5 : Shape := ⟨2, ![201, 5]⟩
abbrev S201x5x1 : Shape := ⟨3, ![201, 5, 1]⟩
abbrev S32x576x201x5 : Shape := ⟨4, ![32, 576, 201, 5]⟩
abbrev S32x201x5 : Shape := ⟨3, ![32, 201, 5]⟩
abbrev S200 : Shape := ⟨1, ![200]⟩
abbrev S200x1 : Shape := ⟨2, ![200, 1]⟩
abbrev S32x200x5 : Shape := ⟨3, ![32, 200, 5]⟩
abbrev S1x200x5 : Shape := ⟨3, ![1, 200, 5]⟩
abbrev S32x200 : Shape := ⟨2, ![32, 200]⟩

abbrev nBuf : Space → Nat
  | .hbm => 55
  | .vmem => 0
  | .smem => 0
  | _ => 0

abbrev bufTy : (tb : Table) → Fin (tcTables nBuf tb) → BufTy
  | .hbm, ⟨0, _⟩ => ⟨S32x576x768, .f32⟩
  | .hbm, ⟨1, _⟩ => ⟨S201x5x768, .f32⟩
  | .hbm, ⟨2, _⟩ => ⟨S200x5, .f32⟩
  | .hbm, ⟨3, _⟩ => ⟨S32x576x768, .f32⟩
  | .hbm, ⟨4, _⟩ => ⟨S_, .f32⟩
  | .hbm, ⟨5, _⟩ => ⟨S32x576, .f32⟩
  | .hbm, ⟨6, _⟩ => ⟨S32x576x1, .f32⟩
  | .hbm, ⟨7, _⟩ => ⟨S32x576x1, .f32⟩
  | .hbm, ⟨8, _⟩ => ⟨S_, .f32⟩
  | .hbm, ⟨9, _⟩ => ⟨S32x576x1, .f32⟩
  | .hbm, ⟨10, _⟩ => ⟨S32x576x1, .f32⟩
  | .hbm, ⟨11, _⟩ => ⟨S32x576x768, .f32⟩
  | .hbm, ⟨12, _⟩ => ⟨S32x576x768, .f32⟩
  | .hbm, ⟨13, _⟩ => ⟨S201x5x768, .f32⟩
  | .hbm, ⟨14, _⟩ => ⟨S_, .f32⟩
  | .hbm, ⟨15, _⟩ => ⟨S201x5, .f32⟩
  | .hbm, ⟨16, _⟩ => ⟨S201x5x1, .f32⟩
  | .hbm, ⟨17, _⟩ => ⟨S201x5x1, .f32⟩
  | .hbm, ⟨18, _⟩ => ⟨S_, .f32⟩
  | .hbm, ⟨19, _⟩ => ⟨S201x5x1, .f32⟩
  | .hbm, ⟨20, _⟩ => ⟨S201x5x1, .f32⟩
  | .hbm, ⟨21, _⟩ => ⟨S201x5x768, .f32⟩
  | .hbm, ⟨22, _⟩ => ⟨S201x5x768, .f32⟩
  | .hbm, ⟨23, _⟩ => ⟨S32x576x201x5, .f32⟩
  | .hbm, ⟨24, _⟩ => ⟨S_, .f32⟩
  | .hbm, ⟨25, _⟩ => ⟨S32x201x5, .f32⟩
  | .hbm, ⟨26, _⟩ => ⟨S_, .f32⟩
  | .hbm, ⟨27, _⟩ => ⟨S200, .f32⟩
  | .hbm, ⟨28, _⟩ => ⟨S_, .f32⟩
  | .hbm, ⟨29, _⟩ => ⟨S200, .f32⟩
  | .hbm, ⟨30, _⟩ => ⟨S200, .f32⟩
  | .hbm, ⟨31, _⟩ => ⟨S200x1, .f32⟩
  | .hbm, ⟨32, _⟩ => ⟨S200x5, .f32⟩
  | .hbm, ⟨33, _⟩ => ⟨S200x5, .f32⟩
  | .hbm, ⟨34, _⟩ => ⟨S200x5, .f32⟩
  | .hbm, ⟨35, _⟩ => ⟨S_, .f32⟩
  | .hbm, ⟨36, _⟩ => ⟨S200, .f32⟩
  | .hbm, ⟨37, _⟩ => ⟨S200x1, .f32⟩
  | .hbm, ⟨38, _⟩ => ⟨S200x5, .f32⟩
  | .hbm, ⟨39, _⟩ => ⟨S200x5, .f32⟩
  | .hbm, ⟨40, _⟩ => ⟨S_, .f32⟩
  | .hbm, ⟨41, _⟩ => ⟨S200x5, .f32⟩
  | .hbm, ⟨42, _⟩ => ⟨S200x5, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S32x200x5, .f32⟩
  | .hbm, ⟨47, _⟩ => ⟨S1x200x5, .f32⟩
  | .hbm, ⟨48, _⟩ => ⟨S32x200x5, .f32⟩
  | .hbm, ⟨49, _⟩ => ⟨S32x200x5, .f32⟩
  | .hbm, ⟨50, _⟩ => ⟨S_, .f32⟩
  | .hbm, ⟨51, _⟩ => ⟨S32x200, .f32⟩
  | .hbm, ⟨52, _⟩ => ⟨S_, .f32⟩
  | .hbm, ⟨53, _⟩ => ⟨S32x200, .f32⟩
  | .hbm, ⟨54, _⟩ => ⟨S32x200, .f32⟩
  | _, _ => ⟨S32x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.KernelIdealFrame.lean ====
/-
  The printed kernel with its constants named: every run ends, the arguments end unchanged and the counters at zero.
-/
module

public import proofs.«01_k».proof.Proof.KernelFrame
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameSuffix
public import Idealize.ShloMosaic.Lib.Tactic

@[expose] public section

noncomputable section

namespace Cert.Proof.KernelIdealFrame

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

/-- A memref's buffer on core `c` held whole at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The same at some contents. -/
abbrev pe (c : Dev nD) {sp : Space} {S : Shape} {e : EltTy} (M : Memref sig .tc sp S e) : sProp 𝕄 :=
  iprop(∃ f : Buf (Elt F) (M.view.loc (c : Thread nD τ)), pt c M f)

abbrev 𝒱₀ : Variants := Variants.none

/-- A memref owned on core `c` at some contents. -/
abbrev po (c : Dev nD) {sp : Space} {S : Shape} {e : EltTy} (M : Memref sig .tc sp S e) : sProp 𝕄 :=
  iprop(∃ X, owns (c : Thread nD τ) M fullShare X)

/-- A whole memref owned at some contents is its buffer held at some contents. -/
theorem owned_eq (c : Dev nD) {sp : Space} {S : Shape} {e : EltTy} {M : Memref sig .tc sp S e} (h : M.IsWhole) :
    po (F := F) c M = pe (F := F) c M :=
  Memref.IsWhole.exists_owns_eq (c := (c : Thread nD τ)) h fullShare

set_option maxHeartbeats 1000000 in
/-- One call of the kernel body on whole buffers at any contents hands them all back at some contents. -/
theorem body_run (c : Dev nD) (i : grid0.Coords)
    (M1 : Memref sig .tc .vmem S1024x768 .f32) (h1 : M1.IsWhole) (M2 : Memref sig .tc .vmem S1152x768 .f32) (h2 : M2.IsWhole)
    (M3 : Memref sig .tc .vmem S5x200 .f32) (h3 : M3.IsWhole) (M4 : Memref sig .tc .vmem S256x8x576 .f32) (h4 : M4.IsWhole)
    (M5 : Memref sig .tc .vmem S5x32x201 .f32) (h5 : M5.IsWhole) (M6 : Memref sig .tc .vmem S32x200 .f32) (h6 : M6.IsWhole)
    (Q : PUnit → sProp 𝕄) :
    iprop(po c M1 ∗ po c M2 ∗ po c M3 ∗ po c M4 ∗ po c M5 ∗ po c M6
        ∗ pe c (Memref.whole cc0_scratch0) ∗ pe c (Memref.whole cc0_scratch1) ∗ pe c (Memref.whole cc0_scratch2)
        ∗ (iprop(po c M1 ∗ po c M2 ∗ po c M3 ∗ po c M4 ∗ po c M5 ∗ po c M6
            ∗ pe c (Memref.whole cc0_scratch0) ∗ pe c (Memref.whole cc0_scratch1) ∗ pe c (Memref.whole cc0_scratch2)) -∗ Q ⟨⟩))
      ⊢ wp frame (wpE (defs₀ (F := F)) 𝒱₀ c none) Set.univ
          (cc0__main_kernel i M1 h1 M2 h2 M3 h3 M4 h4 M5 h5 M6 h6 (Memref.whole cc0_scratch0) (Memref.isWhole_whole _)
            (Memref.whole cc0_scratch1) (Memref.isWhole_whole _) (Memref.whole cc0_scratch2) (Memref.isWhole_whole _)) Q := by
  rw [owned_eq c h1, owned_eq c h2, owned_eq c h3, owned_eq c h4, owned_eq c h5, owned_eq c h6]
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, Hk⟩
  sl_exec
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

variable (m : (ℓ : Loc nD τ sig) → Buf (Elt F) ℓ) (ρ : Dev nD → PrngReg)

/-- The proof data of the one pipeline: the arrays as the region finds them, every staging buffer at contents that are
    not named, and the scratch at some contents throughout. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The body at every point of the grid, every staging buffer at some contents before and after. -/
theorem body_obligation (c : Dev nD) :
    BodyObligationLoose (dats m 0 c) (defs₀ (F := F)) 𝒱₀ () Set.univ (fun _ => true) := fun t => by
  rw [bigSep_W0]
  simp only
  rw [show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl,
    show defs₀ (F := F) .tc cfg0.body (cfg0.bodyArgs t (cfg0.slots t)) = bodyAt0 t by unfold defs₀; rw [Defs.onTc_tc]]
  unfold Pipeline.ΦA
  rw [scopedRest0_eq]
  iintro ⟨⟨⟨S0, S1, S2⟩, Hp⟩, Ho, H0, H1, H2, H3, H4, H5⟩
  iapply (body_run (F := F) c (grid0.coords t) _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  iintro ⟨H0, H1, H2, H3, H4, H5, S0, S1, S2⟩
  isplitl [S0 S1 S2 Hp]
  · isplitl [S0 S1 S2]
    · isplitl [S0]; · iexact S0
      isplitl [S1]; · iexact S1
      iexact S2
    iexact Hp
  isplitl [Ho]; · iexact Ho
  isplitl [H0]; · iexact H0
  isplitl [H1]; · iexact H1
  isplitl [H2]; · iexact H2
  isplitl [H3]; · iexact H3
  isplitl [H4]; · iexact H4
  iexact H5

/-- The buffers the host lines after the region write. -/
def tailWrites : Finset (Ref sig .tc) := {main_v4, main_v5, main_v6}

/-- The host lines after the region write nothing else. -/
theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl <;>
    simp only [StableHlo.unary_writes, StableHlo.reshape_writes, Finset.mem_singleton] at hb <;>
    · rw [Proc.devRef_injective _ hb]; decide

set_option backward.isDefEq.respectTransparency.types false in
/-- Every run of the printed kernel ends with the three arguments as launched and every counter at zero. -/
theorem frame_run : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  Pipeline.θ_run_frame_around_T_track_forget cfgs (dats m) (0 : Fin 1) launch0 defs₀ 𝒱₀ (fun _ => true) tailWrites m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hin := fun _ => .rfl) (hout := fun _ => .rfl)
    (Q' := fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0)
    (hQ' := fun r h => ⟨fun c =>
      ⟨((h.1 c).2 main_arg0 (Finset.mem_sdiff.2 ⟨Pipeline.mem_restRefs_of main_arg0 (by decide) (by decide), by decide⟩)).trans (V_main_arg0 m c),
        ((h.1 c).2 main_arg1 (Finset.mem_sdiff.2 ⟨Pipeline.mem_restRefs_of main_arg1 (by decide) (by decide), by decide⟩)).trans (V_main_arg1 m c),
        ((h.1 c).2 main_arg2 (Finset.mem_sdiff.2 ⟨Pipeline.mem_restRefs_of main_arg2 (by decide) (by decide), by decide⟩)).trans (V_main_arg2 m c)⟩, h.2⟩)

end Cert.Proof.KernelIdealFrame

end
-- ==== Proof.Body.lean ====
/-
  What one call of the kernel body does, by values: the normalised prototypes, the normalised tokens, the block of
  products, its maxima and the class scores, each as a function of what the call found.
-/
module

public import proofs.«01_k».proof.Proof.KernelFrame
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameSuffix
public import Idealize.ShloMosaic.Lib.VecWindow
public import Idealize.ShloMosaic.Lib.Tactic

@[expose] public section

noncomputable section

namespace Cert.Proof.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-- A memref's buffer on core `c` held whole at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- A memref owned on core `c` at contents `X`. -/
abbrev po (c : Dev nD) {sp : Space} {S : Shape} {e : EltTy} (M : Memref sig .tc sp S e) (X : S.Idx → Elt F e) : sProp 𝕄 :=
  owns (c : Thread nD τ) M fullShare X

/-- The kernel takes no variants. -/
abbrev 𝒱₀ : Variants := Variants.none

/-- A whole memref owned at contents is its buffer held at the raw contents that read them. -/
theorem po_eq (c : Dev nD) {sp : Space} {S : Shape} {e : EltTy} {M : Memref sig .tc sp S e} (h : M.IsWhole) (X : S.Idx → Elt F e) :
    po c M X = pt c M (h.unread X) := by
  obtain ⟨b, rfl, rfl, rfl, hm⟩ := id h
  cases hm
  have e : h.unread X = X := h.read_unread X
  rw [e]
  exact owns_whole _ _ _ _

/-- A whole buffer held at contents that read `X` is the memref owned at `X`. -/
theorem pt_owns (c : Dev nD) {sp : Space} {S : Shape} {e : EltTy} {M : Memref sig .tc sp S e} (h : M.IsWhole)
    {f : Buf (Elt F) (M.view.loc (c : Thread nD τ))} {X : S.Idx → Elt F e} (hf : M.view.read (Elt F) f = X) :
    pt c M f ⊢ po c M X := by
  rw [po_eq c h, h.eq_unread hf]

/-- Whether the call is at the first point of the grid. -/
abbrev cond1 (i : grid0.Coords) : BitVec 1 :=
  Scalar.cmpi .ne (Scalar.extui (Scalar.cmpi .eq (BitVec.ofNat 32 (i 0).val) 0#32) : BitVec 32) 0#32

/-- The normalised prototypes after the call. -/
def pnNew (i : grid0.Coords) (X1 : Vec F S1024x768 .f32) (f8 : Vec F S1024x768 .bf16) : Vec F S1024x768 .bf16 :=
  if cond1 i = 1#1 then k0_pay1 X1 else f8

/-- The two slots of normalised tokens after the call. -/
def xnNew (i : grid0.Coords) (X2 : Vec F S1152x768 .f32) (f7 : Vec F S2x4608x768 .bf16) : Vec F S2x4608x768 .bf16 :=
  if k0_cond2 i = 1#1 then put f7 (k0_off1 i) S1x1152x768.size (k0_pay2 (k0_pay8 X2)) else f7

/-- The block of products after the call. -/
def bigNew (i : grid0.Coords) (f8 : Vec F S1024x768 .bf16) (f7 : Vec F S2x4608x768 .bf16) (X4 : Vec F S256x8x576 .f32) : Vec F S256x8x576 .f32 :=
  if h : k0_cond3 i = 1#1 then
    k0_pay3 (window f8 (k0_off2 i) S256x768.size (k0_off2_inb i h)) (window f7 (k0_off3 i) S1x4608x768.size (k0_off3_inb i h))
  else X4

/-- The maxima of all blocks after the call. -/
def imgNew (i : grid0.Coords) (f8 : Vec F S1024x768 .bf16) (f7 : Vec F S2x4608x768 .bf16) (f9 : Vec F S4x1024x8 .f32) : Vec F S4x1024x8 .f32 :=
  if h : k0_cond3 i = 1#1 then
    put f9 (k0_off4 i) S1x256x8.size
      (k0_pay4 (window f8 (k0_off2 i) S256x768.size (k0_off2_inb i h)) (window f7 (k0_off3 i) S1x4608x768.size (k0_off3_inb i h)))
  else f9

/-- Group `g` of the maxima. -/
abbrev grp (f9 : Vec F S4x1024x8 .f32) (g : ℕ) (h : ∀ a, (![g, 0, 0] : Fin 3 → ℕ) a + S1x1024x8.size a ≤ S4x1024x8.size a) : Vec F S1x1024x8 .f32 :=
  window f9 ![g, 0, 0] S1x1024x8.size h

/-- The maxima of all images side by side. -/
def imgAll (f9 : Vec F S4x1024x8 .f32) : Vec F S32x1024 .f32 :=
  k0_pay9 (grp f9 0 inb_S4x1024x8_S1x1024x8_0_0_0) (grp f9 1 inb_S4x1024x8_S1x1024x8_1_0_0)
    (grp f9 2 inb_S4x1024x8_S1x1024x8_2_0_0) (grp f9 3 inb_S4x1024x8_S1x1024x8_3_0_0)

/-- The row numbers of the selecting matrices. -/
abbrev rows : IVec S1024x201 32 := iota .tc S1024x201 32 [0] iota_S1024x201_d0_w32
/-- The column numbers of the selecting matrices. -/
abbrev cols : IVec S1024x201 32 := iota .tc S1024x201 32 [1] iota_S1024x201_d1_w32

/-- The five planes of image logits the last call computes. -/
def planes (f9 : Vec F S4x1024x8 .f32) : Vec F S5x32x201 .f32 :=
  k0_pay6 (imgAll f9)
    (k0_pay12 (grp f9 0 inb_S4x1024x8_S1x1024x8_0_0_0) (grp f9 1 inb_S4x1024x8_S1x1024x8_1_0_0)
      (grp f9 2 inb_S4x1024x8_S1x1024x8_2_0_0) (grp f9 3 inb_S4x1024x8_S1x1024x8_3_0_0))
    (k0_pay15 (imgAll f9) rows cols) (k0_pay16 (imgAll f9) rows cols) (k0_pay17 (imgAll f9) rows cols) (k0_pay19 rows cols)

/-- The class scores the last call computes. -/
def scores (f9 : Vec F S4x1024x8 .f32) (X3 : Vec F S5x200 .f32) : Vec F S32x200 .f32 :=
  k0_pay7 (imgAll f9) (k0_pay10 X3)
    (k0_pay18 (imgAll f9) (k0_pay10 X3) rows cols k0_pay11
      (k0_pay13 (grp f9 0 inb_S4x1024x8_S1x1024x8_0_0_0) (grp f9 1 inb_S4x1024x8_S1x1024x8_1_0_0)
        (grp f9 2 inb_S4x1024x8_S1x1024x8_2_0_0) (grp f9 3 inb_S4x1024x8_S1x1024x8_3_0_0))
      (k0_pay14 X3))
    (k0_pay19 rows cols)

/-- The planes after the call. -/
def planesNew (i : grid0.Coords) (f9 : Vec F S4x1024x8 .f32) (X5 : Vec F S5x32x201 .f32) : Vec F S5x32x201 .f32 :=
  if k0_cond4 i = 1#1 then planes f9 else X5

/-- The scores after the call. -/
def scoresNew (i : grid0.Coords) (f9 : Vec F S4x1024x8 .f32) (X3 : Vec F S5x200 .f32) (X6 : Vec F S32x200 .f32) : Vec F S32x200 .f32 :=
  if k0_cond4 i = 1#1 then scores f9 X3 else X6

/-- A buffer held at contents is held at any equal contents. -/
theorem pt_congr (c : Dev nD) {sp : Space} {S : Shape} {e : EltTy} {M : Memref sig .tc sp S e}
    {f g : Buf (Elt F) (M.view.loc (c : Thread nD τ))} (h : f = g) : pt c M f ⊢ pt c M g := by rw [h]

section Whole
variable (b : Ref sig .tc) (f : b.ty.Contents (Elt F))

/-- A whole buffer reads its contents. -/
theorem whole_read : View.read (Elt F) (Memref.whole b).view f = f := View.read_whole b f

/-- One store over a whole buffer of its own sizes leaves the payload. -/
theorem whole_writes_full {off : Fin b.ty.shape.rank → ℕ} (inb : ∀ a, off a + b.ty.shape.size a ≤ b.ty.shape.size a)
    (w : (Rect.unit off b.ty.shape.size inb).shape.Idx → Elt F b.ty.elt) :
    (Memref.whole b).view.writes (Elt F) f [⟨Rect.unit off b.ty.shape.size inb, w⟩] = w := by
  have h := View.read_writes_full (Memref.whole b).view f inb w []
  exact (whole_read b _).symm.trans h

/-- One store into a whole buffer puts the payload over its window. -/
theorem whole_writes_put {off size : Fin b.ty.shape.rank → ℕ} (inb : ∀ a, off a + size a ≤ b.ty.shape.size a)
    (w : (Rect.unit off size inb).shape.Idx → Elt F b.ty.elt) :
    (Memref.whole b).view.writes (Elt F) f [⟨Rect.unit off size inb, w⟩] = put f off size w := by
  have h := View.read_writes_cons_put (Memref.whole b).view f inb w [] rfl
  rw [View.writes_nil, whole_read] at h
  exact (whole_read b _).symm.trans h

/-- A load from a whole buffer reads a window of its contents. -/
theorem whole_readAt {off size : Fin b.ty.shape.rank → ℕ} (inb : ∀ a, off a + size a ≤ b.ty.shape.size a) :
    View.readAt (Elt F) (Memref.whole b).view (Rect.unit off size inb).toLoadRect f = window f off size inb := by
  have h := View.readAt_unit (Memref.whole b).view f inb rfl inb
  rwa [whole_read] at h

end Whole

variable (i : grid0.Coords)

/-- The first store leaves the normalised prototypes. -/
theorem raw_pn {M1 : Memref sig .tc .vmem S1024x768 .f32} (h1 : M1.IsWhole) (X1 : Vec F S1024x768 .f32) (f8 : Vec F S1024x768 .bf16) :
    (if _ : cond1 i = 1#1 then
        (Memref.whole cc0_scratch1).view.writes (Elt F) f8
          [⟨Rect.unit (s := S1024x768) ![0, 0] S1024x768.size inb_S1024x768_S1024x768_0_0,
            k0_pay1 (View.readAt (Elt F) M1.view (Rect.unit (s := S1024x768) ![0, 0] S1024x768.size inb_S1024x768_S1024x768_0_0).toLoadRect (h1.unread X1))⟩]
      else f8) = pnNew i X1 f8 := by
  unfold pnNew
  by_cases hc : cond1 i = 1#1
  · rw [dif_pos hc, if_pos hc, View.readAt_full, h1.read_unread]
    exact whole_writes_full cc0_scratch1 f8 inb_S1024x768_S1024x768_0_0 (k0_pay1 X1)
  · rw [dif_neg hc, if_neg hc]

/-- The second store puts the normalised tokens in their slot. -/
theorem raw_xn {M2 : Memref sig .tc .vmem S1152x768 .f32} (h2 : M2.IsWhole) (X2 : Vec F S1152x768 .f32) (f7 : Vec F S2x4608x768 .bf16) :
    (if hc : k0_cond2 i = 1#1 then
        (Memref.whole cc0_scratch0).view.writes (Elt F) f7
          [⟨Rect.unit (s := S2x4608x768) (k0_off1 i) S1x1152x768.size (k0_off1_inb i hc),
            k0_pay2 (k0_pay8 (View.readAt (Elt F) M2.view (Rect.unit (s := S1152x768) ![0, 0] S1152x768.size inb_S1152x768_S1152x768_0_0).toLoadRect (h2.unread X2)))⟩]
      else f7) = xnNew i X2 f7 := by
  unfold xnNew
  by_cases hc : k0_cond2 i = 1#1
  · rw [dif_pos hc, if_pos hc, View.readAt_full, h2.read_unread]
    exact whole_writes_put cc0_scratch0 f7 (k0_off1_inb i hc) (k0_pay2 (k0_pay8 X2))
  · rw [dif_neg hc, if_neg hc]

/-- The fourth store puts the block's maxima in their place. -/
theorem raw_img {M1 : Memref sig .tc .vmem S1024x768 .f32} (h1 : M1.IsWhole) (X1 : Vec F S1024x768 .f32) (f8 : Vec F S1024x768 .bf16)
    {M2 : Memref sig .tc .vmem S1152x768 .f32} (h2 : M2.IsWhole) (X2 : Vec F S1152x768 .f32) (f7 : Vec F S2x4608x768 .bf16)
    (f9 : Vec F S4x1024x8 .f32) :
    (if hc : k0_cond3 i = 1#1 then
        (Memref.whole cc0_scratch2).view.writes (Elt F) f9
          [⟨Rect.unit (s := S4x1024x8) (k0_off4 i) S1x256x8.size (k0_off4_inb i hc),
            k0_pay4
              (View.readAt (Elt F) (Memref.whole cc0_scratch1).view (Rect.unit (s := S1024x768) (k0_off2 i) S256x768.size (k0_off2_inb i hc)).toLoadRect
                (if _ : cond1 i = 1#1 then
                  (Memref.whole cc0_scratch1).view.writes (Elt F) f8
                    [⟨Rect.unit (s := S1024x768) ![0, 0] S1024x768.size inb_S1024x768_S1024x768_0_0,
                      k0_pay1 (View.readAt (Elt F) M1.view (Rect.unit (s := S1024x768) ![0, 0] S1024x768.size inb_S1024x768_S1024x768_0_0).toLoadRect (h1.unread X1))⟩]
                else f8))
              (View.readAt (Elt F) (Memref.whole cc0_scratch0).view (Rect.unit (s := S2x4608x768) (k0_off3 i) S1x4608x768.size (k0_off3_inb i hc)).toLoadRect
                (if hc : k0_cond2 i = 1#1 then
                  (Memref.whole cc0_scratch0).view.writes (Elt F) f7
                    [⟨Rect.unit (s := S2x4608x768) (k0_off1 i) S1x1152x768.size (k0_off1_inb i hc),
                      k0_pay2 (k0_pay8 (View.readAt (Elt F) M2.view (Rect.unit (s := S1152x768) ![0, 0] S1152x768.size inb_S1152x768_S1152x768_0_0).toLoadRect (h2.unread X2)))⟩]
                else f7))⟩]
      else f9) = imgNew i (pnNew i X1 f8) (xnNew i X2 f7) f9 := by
  rw [raw_pn, raw_xn]
  unfold imgNew
  by_cases hc : k0_cond3 i = 1#1
  · rw [dif_pos hc, dif_pos hc]
    rw [show View.readAt (Elt F) (Memref.whole cc0_scratch1).view (Rect.unit (s := S1024x768) (k0_off2 i) S256x768.size (k0_off2_inb i hc)).toLoadRect (pnNew i X1 f8)
        = _ from whole_readAt cc0_scratch1 _ _,
      show View.readAt (Elt F) (Memref.whole cc0_scratch0).view (Rect.unit (s := S2x4608x768) (k0_off3 i) S1x4608x768.size (k0_off3_inb i hc)).toLoadRect (xnNew i X2 f7)
        = _ from whole_readAt cc0_scratch0 _ _]
    exact whole_writes_put cc0_scratch2 f9 (k0_off4_inb i hc) _
  · rw [dif_neg hc, dif_neg hc]

set_option maxHeartbeats 2000000 in
/-- One call of the kernel body on whole buffers at given contents leaves the contents named above. -/
theorem body_run (c : Dev nD)
    (M1 : Memref sig .tc .vmem S1024x768 .f32) (h1 : M1.IsWhole) (M2 : Memref sig .tc .vmem S1152x768 .f32) (h2 : M2.IsWhole)
    (M3 : Memref sig .tc .vmem S5x200 .f32) (h3 : M3.IsWhole) (M4 : Memref sig .tc .vmem S256x8x576 .f32) (h4 : M4.IsWhole)
    (M5 : Memref sig .tc .vmem S5x32x201 .f32) (h5 : M5.IsWhole) (M6 : Memref sig .tc .vmem S32x200 .f32) (h6 : M6.IsWhole)
    (X1 : Vec F S1024x768 .f32) (X2 : Vec F S1152x768 .f32) (X3 : Vec F S5x200 .f32) (X4 : Vec F S256x8x576 .f32)
    (X5 : Vec F S5x32x201 .f32) (X6 : Vec F S32x200 .f32)
    (f7 : Vec F S2x4608x768 .bf16) (f8 : Vec F S1024x768 .bf16) (f9 : Vec F S4x1024x8 .f32)
    (Q : PUnit → sProp 𝕄) :
    iprop(po c M1 X1 ∗ po c M2 X2 ∗ po c M3 X3 ∗ po c M4 X4 ∗ po c M5 X5 ∗ po c M6 X6
        ∗ pt c (Memref.whole cc0_scratch0) f7 ∗ pt c (Memref.whole cc0_scratch1) f8 ∗ pt c (Memref.whole cc0_scratch2) f9
        ∗ (iprop(po c M1 X1 ∗ po c M2 X2 ∗ po c M3 X3
            ∗ po c M4 (bigNew i (pnNew i X1 f8) (xnNew i X2 f7) X4)
            ∗ po c M5 (planesNew i (imgNew i (pnNew i X1 f8) (xnNew i X2 f7) f9) X5)
            ∗ po c M6 (scoresNew i (imgNew i (pnNew i X1 f8) (xnNew i X2 f7) f9) X3 X6)
            ∗ pt c (Memref.whole cc0_scratch0) (xnNew i X2 f7) ∗ pt c (Memref.whole cc0_scratch1) (pnNew i X1 f8)
            ∗ pt c (Memref.whole cc0_scratch2) (imgNew i (pnNew i X1 f8) (xnNew i X2 f7) f9)) -∗ Q ⟨⟩))
      ⊢ wp frame (wpE (defs₀ (F := F)) 𝒱₀ c none) Set.univ
          (cc0__main_kernel i M1 h1 M2 h2 M3 h3 M4 h4 M5 h5 M6 h6 (Memref.whole cc0_scratch0) (Memref.isWhole_whole _)
            (Memref.whole cc0_scratch1) (Memref.isWhole_whole _) (Memref.whole cc0_scratch2) (Memref.isWhole_whole _)) Q := by
  rw [po_eq c h1, po_eq c h2, po_eq c h3, po_eq c h4 X4, po_eq c h5 X5, po_eq c h6 X6]
  iintro ⟨H1, H2, H3, H4, H5, H6, H7, H8, H9, Hk⟩
  sl_exec
  sl_step
  iapply Hk
  isplitl [H1]; · iexact H1
  isplitl [H2]; · iexact H2
  isplitl [H3]; · iexact H3
  isplitl [H4]
  · iapply (pt_owns c h4 ?_); rotate_left; iexact H4
    unfold bigNew
    by_cases hc : k0_cond3 i = 1#1
    · rw [dif_pos hc, dif_pos hc, View.read_writes_full]
      sl_unfold_run_names
      rw [raw_pn, raw_xn]; rfl
    · rw [dif_neg hc, dif_neg hc]; exact h4.read_unread X4
  isplitl [H5]
  · iapply (pt_owns c h5 ?_); rotate_left; iexact H5
    unfold planesNew
    by_cases hc : k0_cond4 i = 1#1
    · rw [dif_pos hc, if_pos hc, View.read_writes_full]
      sl_unfold_run_names
      rw [raw_img i h1 X1 f8 h2 X2 f7 f9]
      generalize imgNew i (pnNew i X1 f8) (xnNew i X2 f7) f9 = G
      unfold planes imgAll grp
      simp only [← whole_readAt cc0_scratch2 G]
      rfl
    · rw [dif_neg hc, if_neg hc]; exact h5.read_unread X5
  isplitl [H6]
  · iapply (pt_owns c h6 ?_); rotate_left; iexact H6
    unfold scoresNew
    by_cases hc : k0_cond4 i = 1#1
    · rw [dif_pos hc, if_pos hc, View.read_writes_full]
      sl_unfold_run_names
      rw [raw_img i h1 X1 f8 h2 X2 f7 f9]
      generalize imgNew i (pnNew i X1 f8) (xnNew i X2 f7) f9 = G
      rw [View.readAt_full, h3.read_unread]
      unfold scores imgAll grp
      simp only [← whole_readAt cc0_scratch2 G]
      rfl
    · rw [dif_neg hc, if_neg hc]; exact h6.read_unread X6
  isplitl [H7]
  · iapply (pt_congr c ?_); rotate_left; iexact H7
    sl_unfold_run_names; exact raw_xn i h2 X2 f7
  isplitl [H8]
  · iapply (pt_congr c ?_); rotate_left; iexact H8
    sl_unfold_run_names; exact raw_pn i h1 X1 f8
  iapply (pt_congr c ?_); rotate_left; iexact H9
  sl_unfold_run_names; exact raw_img i h1 X1 f8 h2 X2 f7 f9

end Cert.Proof.Body

end
-- ==== Proof.Sched.lean ====
/-
  The schedule of the grid: which chunk of normalised tokens, which block of normalised sub-patches and which maxima the
  scratch buffers hold at each point.
-/
module

public import proofs.«01_k».proof.Proof.Body
public import Idealize.ShloMosaic.Lib.ValueIdxCore
public import Idealize.ShloMosaic.Lib.ValueLayout

@[expose] public section

noncomputable section

namespace Cert.Proof.Sched

open Cert.KernelIdeal Cert.KernelIdeal.Gen Cert.Proof.Body
open Idealize.ShloMosaic Idealize.ShloMosaic.ValueIdx Idealize.ShloMosaic.VecWindow

variable {F : FTy → Type} [FloatOps F] [Named F]

/-! ## Conditions and offsets over the grid -/

/-- A point's number is below 20. -/
theorem point_lt (i : grid0.Coords) : (i 0).val < 20 := (i 0).isLt

/-- The sub-patches are normalised at point 0 only. -/
theorem cond1_iff : ∀ i : grid0.Coords, cond1 i = 1#1 ↔ (i 0).val = 0 := by decide +kernel
/-- A chunk of tokens is normalised at points 0 to 15. -/
theorem cond2_iff : ∀ i : grid0.Coords, k0_cond2 i = 1#1 ↔ (i 0).val < 16 := by decide +kernel
/-- A block of products is computed from point 4 on. -/
theorem cond3_iff : ∀ i : grid0.Coords, k0_cond3 i = 1#1 ↔ 4 ≤ (i 0).val := by decide +kernel
/-- The two small results are computed at the last point. -/
theorem cond4_iff : ∀ i : grid0.Coords, k0_cond4 i = 1#1 ↔ (i 0).val = 19 := by decide +kernel

/-- The place of a chunk of tokens. -/
theorem off1_eq : ∀ i : grid0.Coords, (i 0).val < 16 →
    k0_off1 i = ![(i 0).val / 4 % 2, (i 0).val % 4 * 1152, 0] := by decide +kernel
/-- The rows of sub-patches a point multiplies. -/
theorem off2_eq : ∀ i : grid0.Coords, 4 ≤ (i 0).val → k0_off2 i = ![((i 0).val - 4) % 4 * 256, 0] := by decide +kernel
/-- The half of the token scratch a point multiplies. -/
theorem off3_eq : ∀ i : grid0.Coords, 4 ≤ (i 0).val → k0_off3 i = ![((i 0).val - 4) / 4 % 2, 0, 0] := by decide +kernel
/-- The place of a point's maxima. -/
theorem off4_eq : ∀ i : grid0.Coords, 4 ≤ (i 0).val →
    k0_off4 i = ![((i 0).val - 4) / 4, ((i 0).val - 4) % 4 * 256, 0] := by decide +kernel

/-! ## What the scratch buffers hold -/

/-- The rows `256 t` to `256 t + 255` of the normalised sub-patches. -/
def pnRows (pn : Vec F S1024x768 .bf16) (t : ℕ) : Vec F S256x768 .bf16 :=
  fun y => pn (ix2 ⟨t % 4 * 256 + (y 0).val, by have := idx2_lt0 y; omega⟩ (y 1))

/-- The normalised tokens of group `g`, four chunks one after the other. -/
def xnGroup (xb : ℕ → Vec F S1152x768 .f32) (g : ℕ) : Vec F S1x4608x768 .bf16 :=
  fun y => k0_pay8 (xb (4 * g + (y 1).val / 1152)) (ix2 ⟨(y 1).val % 1152, Nat.mod_lt _ (by decide)⟩ (y 2))

/-- The block of products of point `s`. -/
def bigBlk (pn : Vec F S1024x768 .bf16) (xb : ℕ → Vec F S1152x768 .f32) (s : ℕ) : Vec F S256x8x576 .f32 :=
  k0_pay3 (pnRows pn (s - 4)) (xnGroup xb ((s - 4) / 4))

/-- Every maximum over the patches, by group, sub-patch and image of the group. -/
def imgVal (pn : Vec F S1024x768 .bf16) (xb : ℕ → Vec F S1152x768 .f32) : Vec F S4x1024x8 .f32 :=
  fun z => k0_pay4 (pnRows pn ((z 1).val / 256)) (xnGroup xb (z 0).val)
    (ix3 0 ⟨(z 1).val % 256, Nat.mod_lt _ (by decide)⟩ (z 2))

/-- Before point `n` the token scratch holds the chunks written at the last eight points. -/
def InvX (xb : ℕ → Vec F S1152x768 .f32) (n : ℕ) (f : Vec F S2x4608x768 .bf16) : Prop :=
  ∀ (a : Fin 2) (b : Fin 4608) (d : Fin 768) (g : ℕ), g % 2 = a.val → 4 * g + b.val / 1152 < n →
    4 * g + b.val / 1152 < 16 → n ≤ 4 * g + b.val / 1152 + 8 → f (ix3 a b d) = xnGroup xb g (ix3 0 b d)

/-- Before point `n` the sub-patch scratch holds the normalised sub-patches, from point 1 on. -/
def InvP (pn : Vec F S1024x768 .bf16) (n : ℕ) (f : Vec F S1024x768 .bf16) : Prop := 1 ≤ n → f = pn

/-- Before point `n` the scratch of maxima holds those of the points passed. -/
def InvI (pn : Vec F S1024x768 .bf16) (xb : ℕ → Vec F S1152x768 .f32) (n : ℕ) (f : Vec F S4x1024x8 .f32) : Prop :=
  ∀ (a : Fin 4) (b : Fin 1024) (d : Fin 8), 4 * a.val + b.val / 256 + 4 < n → f (ix3 a b d) = imgVal pn xb (ix3 a b d)

variable (pn : Vec F S1024x768 .bf16) (xb : ℕ → Vec F S1152x768 .f32)

/-- One call keeps the normalised sub-patches, once point 0 has written them. -/
theorem invP_step (i : grid0.Coords) (X1 : Vec F S1024x768 .f32) (f : Vec F S1024x768 .bf16)
    (h1 : (i 0).val = 0 → k0_pay1 X1 = pn) (hf : InvP pn (i 0).val f) : pnNew i X1 f = pn := by
  unfold pnNew
  split
  · rename_i h; exact h1 ((cond1_iff i).mp h)
  · rename_i h; exact hf (by have := mt (cond1_iff i).mpr h; omega)

/-- A rank-3 array with a block put over it, read inside the block. -/
theorem put3_in {α : Type} {A B D a b d : ℕ} (x : (⟨3, ![A, B, D]⟩ : Shape).Idx → α) (off : Fin 3 → ℕ)
    (w : (⟨3, ![a, b, d]⟩ : Shape).Idx → α) (p : Fin A) (q : Fin B) (r : Fin D) (p' : Fin a) (q' : Fin b) (r' : Fin d)
    (h0 : p.val = off 0 + p'.val) (h1 : q.val = off 1 + q'.val) (h2 : r.val = off 2 + r'.val) :
    put (s := ⟨3, ![A, B, D]⟩) x off ![a, b, d] w (ix3 p q r) = w (ix3 p' q' r') := by
  unfold put
  rw [dif_pos]
  · congr 1
    funext k
    match k with
    | ⟨0, _⟩ => exact Fin.ext (show p.val - off 0 = p'.val by omega)
    | ⟨1, _⟩ => exact Fin.ext (show q.val - off 1 = q'.val by omega)
    | ⟨2, _⟩ => exact Fin.ext (show r.val - off 2 = r'.val by omega)
  · intro k
    match k with
    | ⟨0, _⟩ => exact (show off 0 ≤ p.val ∧ p.val < off 0 + a by have := p'.isLt; omega)
    | ⟨1, _⟩ => exact (show off 1 ≤ q.val ∧ q.val < off 1 + b by have := q'.isLt; omega)
    | ⟨2, _⟩ => exact (show off 2 ≤ r.val ∧ r.val < off 2 + d by have := r'.isLt; omega)

/-- The same outside the block, past it on one of the first two axes. -/
theorem put3_out {α : Type} {A B D a b d : ℕ} (x : (⟨3, ![A, B, D]⟩ : Shape).Idx → α) (off : Fin 3 → ℕ)
    (w : (⟨3, ![a, b, d]⟩ : Shape).Idx → α) (p : Fin A) (q : Fin B) (r : Fin D)
    (h : ¬ ((off 0 ≤ p.val ∧ p.val < off 0 + a) ∧ (off 1 ≤ q.val ∧ q.val < off 1 + b))) :
    put (s := ⟨3, ![A, B, D]⟩) x off ![a, b, d] w (ix3 p q r) = x (ix3 p q r) := by
  unfold put
  rw [dif_neg]
  exact fun hall => h ⟨hall 0, hall 1⟩

/-- One call carries the buffer of normalised tokens from its state at a point to its state at the next. -/
theorem invX_step (i : grid0.Coords) (X2 : Vec F S1152x768 .f32) (f : Vec F S2x4608x768 .bf16)
    (h2 : (i 0).val < 16 → X2 = xb (i 0).val) (hf : InvX xb (i 0).val f) : InvX xb ((i 0).val + 1) (xnNew i X2 f) := by
  intro a b d g hg hlt h16 hle
  have ha := a.isLt
  have hb := b.isLt
  unfold xnNew
  split
  · rename_i h
    have hs := (cond2_iff i).mp h
    rw [off1_eq i hs]
    by_cases hq : 4 * g + b.val / 1152 = (i 0).val
    · refine (put3_in f _ _ a b d 0 ⟨b.val % 1152, Nat.mod_lt _ (by decide)⟩ d ?_ ?_ ?_).trans ?_
      · show a.val = (i 0).val / 4 % 2 + 0
        omega
      · show b.val = (i 0).val % 4 * 1152 + b.val % 1152
        omega
      · show d.val = 0 + d.val
        omega
      · unfold k0_pay2 xnGroup
        refine (shapeCast_ab_1ab_apply _ _ _ _ _).trans ?_
        rw [h2 hs, ← hq]
    · refine (put3_out f _ _ a b d ?_).trans (hf a b d g hg (by omega) h16 (by omega))
      rintro ⟨h0, h1⟩
      change (i 0).val / 4 % 2 ≤ a.val ∧ a.val < (i 0).val / 4 % 2 + 1 at h0
      change (i 0).val % 4 * 1152 ≤ b.val ∧ b.val < (i 0).val % 4 * 1152 + 1152 at h1
      omega
  · rename_i h
    have hs := mt (cond2_iff i).mpr h
    exact hf a b d g hg (by omega) h16 (by omega)

/-- The rows a point reads of the normalised sub-patches. -/
theorem window_pn (i : grid0.Coords) (hs : 4 ≤ (i 0).val) (hi : ∀ a, k0_off2 i a + S256x768.size a ≤ S1024x768.size a) :
    window pn (k0_off2 i) S256x768.size hi = pnRows pn ((i 0).val - 4) := by
  funext y
  unfold window pnRows
  congr 1
  funext k
  have e := off2_eq i hs
  match k with
  | ⟨0, _⟩ =>
    refine Fin.ext ?_
    show k0_off2 i 0 + 1 * (y 0).val = ((i 0).val - 4) % 4 * 256 + (y 0).val
    have e' : k0_off2 i 0 = ((i 0).val - 4) % 4 * 256 := congrFun e 0
    omega
  | ⟨1, _⟩ =>
    refine Fin.ext ?_
    show k0_off2 i 1 + 1 * (y 1).val = (y 1).val
    have e' : k0_off2 i 1 = 0 := congrFun e 1
    omega

/-- The half a point reads of the token scratch holds one whole group. -/
theorem window_xn (i : grid0.Coords) (hs : 4 ≤ (i 0).val) (f : Vec F S2x4608x768 .bf16)
    (hf : InvX xb ((i 0).val + 1) f) (hi : ∀ a, k0_off3 i a + S1x4608x768.size a ≤ S2x4608x768.size a) :
    window f (k0_off3 i) S1x4608x768.size hi = xnGroup xb (((i 0).val - 4) / 4) := by
  funext y
  have hy := (y 1).isLt
  change (y 1).val < 4608 at hy
  have h0 : (y 0).val < 1 := (y 0).isLt
  have h2 := (y 2).isLt
  change (y 2).val < 768 at h2
  have hlt := point_lt i
  have e := off3_eq i hs
  have key := hf ⟨((i 0).val - 4) / 4 % 2, by omega⟩ ⟨(y 1).val, hy⟩ ⟨(y 2).val, h2⟩ (((i 0).val - 4) / 4) rfl
    (by show _ + (y 1).val / 1152 < _; omega) (by show _ + (y 1).val / 1152 < _; omega) (by show _ ≤ _ + (y 1).val / 1152 + 8; omega)
  unfold window
  refine Eq.trans (congrArg f ?_) (key.trans (congrArg _ ?_))
  · funext k
    match k with
    | ⟨0, _⟩ =>
      refine Fin.ext ?_
      show k0_off3 i 0 + 1 * (y 0).val = ((i 0).val - 4) / 4 % 2
      have e' : k0_off3 i 0 = ((i 0).val - 4) / 4 % 2 := congrFun e 0
      omega
    | ⟨1, _⟩ =>
      refine Fin.ext ?_
      show k0_off3 i 1 + 1 * (y 1).val = (y 1).val
      have e' : k0_off3 i 1 = 0 := congrFun e 1
      omega
    | ⟨2, _⟩ =>
      refine Fin.ext ?_
      show k0_off3 i 2 + 1 * (y 2).val = (y 2).val
      have e' : k0_off3 i 2 = 0 := congrFun e 2
      omega
  · funext k
    match k with
    | ⟨0, _⟩ => exact Fin.ext (show 0 = (y 0).val by omega)
    | ⟨1, _⟩ => rfl
    | ⟨2, _⟩ => rfl

/-- The block of products a point from 4 on stores. -/
theorem bigNew_eq (i : grid0.Coords) (hs : 4 ≤ (i 0).val) (f7 : Vec F S2x4608x768 .bf16)
    (hf : InvX xb ((i 0).val + 1) f7) (X4 : Vec F S256x8x576 .f32) : bigNew i pn f7 X4 = bigBlk pn xb (i 0).val := by
  unfold bigNew bigBlk
  rw [dif_pos ((cond3_iff i).mpr hs), window_pn pn i hs, window_xn xb i hs f7 hf]

/-- One call carries the buffer of maxima from its state at a point to its state at the next. -/
theorem invI_step (i : grid0.Coords) (f7 : Vec F S2x4608x768 .bf16) (hf : InvX xb ((i 0).val + 1) f7)
    (f9 : Vec F S4x1024x8 .f32) (h9 : InvI pn xb (i 0).val f9) : InvI pn xb ((i 0).val + 1) (imgNew i pn f7 f9) := by
  intro a b d hlt
  have ha := a.isLt
  have hb := b.isLt
  have hi := point_lt i
  unfold imgNew
  split
  · rename_i h
    have hs := (cond3_iff i).mp h
    rw [window_pn pn i hs, window_xn xb i hs f7 hf, off4_eq i hs]
    by_cases hq : 4 * a.val + b.val / 256 + 4 = (i 0).val
    · refine (put3_in f9 _ _ a b d 0 ⟨b.val % 256, Nat.mod_lt _ (by decide)⟩ d ?_ ?_ ?_).trans ?_
      · show a.val = ((i 0).val - 4) / 4 + 0
        omega
      · show b.val = ((i 0).val - 4) % 4 * 256 + b.val % 256
        omega
      · show d.val = 0 + d.val
        omega
      · unfold imgVal
        have e1 : pnRows pn ((i 0).val - 4) = pnRows pn (b.val / 256) := by
          unfold pnRows
          have : ((i 0).val - 4) % 4 = b.val / 256 % 4 := by omega
          funext y
          simp only [this]
        have e2 : ((i 0).val - 4) / 4 = a.val := by omega
        rw [e1, e2]
    · refine (put3_out f9 _ _ a b d ?_).trans (h9 a b d (by omega))
      rintro ⟨h0, h1⟩
      change ((i 0).val - 4) / 4 ≤ a.val ∧ a.val < ((i 0).val - 4) / 4 + 1 at h0
      change ((i 0).val - 4) % 4 * 256 ≤ b.val ∧ b.val < ((i 0).val - 4) % 4 * 256 + 256 at h1
      omega
  · rename_i h
    have hs := mt (cond3_iff i).mpr h
    exact h9 a b d (by omega)

/-- After the last point the scratch of maxima holds them all. -/
theorem invI_last (f9 : Vec F S4x1024x8 .f32) (h9 : InvI pn xb 20 f9) : f9 = imgVal pn xb := by
  funext z
  rw [eq_ix3 z]
  refine h9 _ _ _ ?_
  have h0 : (z 0).val < 4 := (z 0).isLt
  have h1 : (z 1).val < 1024 := (z 1).isLt
  show 4 * (z 0).val + (z 1).val / 256 + 4 < 20
  omega

end Cert.Proof.Sched

end
-- ==== Proof.KernelRun.lean ====
/-
  The run of the printed kernel with what its buffers hold: the invariant of the schedule, every call of the body, and the
  launch.
-/
module

public import proofs.«01_k».proof.Proof.Sched
public import proofs.«01_k».proof.Proof.Gen.KernelIdeal.Frame
public import Idealize.ShloMosaic.Lib.Pipeline.Value

@[expose] public section

noncomputable section

namespace Cert.Proof.KernelRun

open Cert.KernelIdeal Cert.KernelIdeal.Gen Cert.Proof.Body Cert.Proof.Sched

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (PN : Dev nD → Vec F S1024x768 .bf16)

/-- The point's one coordinate is its number. -/
theorem coords_val : ∀ t : Fin cfg0.N, (grid0.coords t 0).val = t.val :=
  (by decide +kernel : ∀ t : Fin grid0.N, (grid0.coords t 0).val = t.val)

/-- The grid has 20 points. -/
theorem N_eq : cfg0.N = 20 := by decide

/-- The chunk of tokens the pipeline hands point `q`. -/
def xb (c : Dev nD) (q : ℕ) : Vec F S1152x768 .f32 := if h : q < cfg0.N then iblk m c 1 ⟨q, h⟩ else fun _ => Scalar.ofBits .f32 0#32

/-- At a point of the grid the chunk of tokens is the window's block. -/
theorem xb_eq (c : Dev nD) (t : Fin cfg0.N) : xb m c t.val = iblk m c 1 t := by
  unfold xb; rw [dif_pos t.isLt]

/-- The maxima over the patches. -/
abbrev img (c : Dev nD) : Vec F S4x1024x8 .f32 := imgVal (PN c) (xb m c)

/-- The invariant before point `n`: the three scratch buffers at contents the schedule describes. -/
def inv (c : Dev nD) (n : ℕ) : sProp 𝕄 :=
  iprop(∃ (f7 : Vec F S2x4608x768 .bf16) (f8 : Vec F S1024x768 .bf16) (f9 : Vec F S4x1024x8 .f32),
    ⌜InvX (xb m c) n f7 ∧ InvP (PN c) n f8 ∧ InvI (PN c) (xb m c) n f9⌝
      ∗ (pt c (Memref.whole cc0_scratch0) f7 ∗ pt c (Memref.whole cc0_scratch1) f8 ∗ pt c (Memref.whole cc0_scratch2) f9)
      ∗ ∃ r, prngReg c r)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => bigBlk (PN c) (xb m c) t.val
    | ⟨4, _⟩ => planes (img m PN c)
    | ⟨5, _⟩ => scores (img m PN c) (iblk m c 2 t)
    | ⟨_ + 6, h⟩ => absurd h (Nat.not_lt.2 (Nat.le_add_left _ _))
  Φ n := inv m PN c n.val
  q _ := fullShare
  owed _ := 0

/-- The sub-patches' buffer holds its one block, with anything past the array's end. -/
theorem before_0 (c : Dev nD) (t : Fin cfg0.N) (d) :
    (dats m PN 0 c).before 0 t d = win0_0.fill (grid0.coords t) d (iblk m c 0 t) := by
  rw [(dats m PN 0 c).before_in_eq_fetched 0 rfl (fun _ => rfl) (fun _ _ _ => rfl)
    (fun t => win0_0.cut_fill (grid0.coords t) _ _) t d]
  rfl

/-- The window of the tokens holds its block before each call. -/
theorem before_1 (c : Dev nD) (t : Fin cfg0.N) (d) : (dats m PN 0 c).before 1 t d = iblk m c 1 t :=
  before0_1_of m (dats m PN 0 c) rfl (fun _ => rfl) t d

/-- The window of the logits holds its block before each call. -/
theorem before_2 (c : Dev nD) (t : Fin cfg0.N) (d) : (dats m PN 0 c).before 2 t d = iblk m c 2 t :=
  before0_2_of m (dats m PN 0 c) rfl (fun _ => rfl) t d

/-- What the body leaves in a window's buffer, from what the buffer holds. -/
theorem leave (c : Dev nD) (w : Fin cfg0.W) (t : Fin cfg0.N) (Y)
    (h : (cfg0.idle w (cfg0.grid.coords t) = true ∧ (cfg0.win w).flush t = false ∧ ∃ d, Y = (dats m PN 0 c).before w t d)
      ∨ (cfg0.idle w (cfg0.grid.coords t) = false ∧ (Y = (dats m PN 0 c).after w t
        ∨ (cfg0.loose w = true ∧ ∃ d, Y = (cfg0.win w).fill (cfg0.grid.coords t) d ((cfg0.win w).cut (cfg0.grid.coords t) ((dats m PN 0 c).after w t)))))) :
    owns (c : Thread nD τ) ((cfg0.win w).stage (cfg0.slots t w)) fullShare Y ⊢ (dats m PN 0 c).leaves w t := by
  rcases h with ⟨hi, hf, d, rfl⟩ | ⟨hi, rfl | ⟨hl, d, rfl⟩⟩
  · unfold Dat.leaves
    rw [hi, hf]
    iintro H; iexists d; iexact H
  · refine BIBase.Entails.trans ?_ ((dats m PN 0 c).leaves_intro w t)
    unfold Dat.leavesExact
    rw [hi]
  · unfold Dat.leaves
    rw [hi, hl]
    iintro H; iexists d; iexact H

/-- Before point 4 no block of products is written back. -/
theorem flush_3_idle : ∀ t : Fin cfg0.N, ¬ 4 ≤ t.val → (cfg0.win 3).flush t = false :=
  (by decide +kernel : ∀ t : Fin grid0.N, ¬ 4 ≤ t.val → win0_3.flush t = false)
/-- From point 4 on every block of products is written back. -/
theorem flush_3_live : ∀ t : Fin cfg0.N, 4 ≤ t.val → (cfg0.win 3).flush t = true :=
  (by decide +kernel : ∀ t : Fin grid0.N, 4 ≤ t.val → win0_3.flush t = true)

/-- A one-bit word that is not one, tested against one. -/
theorem idle_true {b : BitVec 1} (h : ¬ b = 1#1) : (!(b == 1#1)) = true := by simp [h]
/-- Where a point's condition holds, its output is not idle. -/
theorem idle_false {b : BitVec 1} (h : b = 1#1) : (!(b == 1#1)) = false := by simp [h]

set_option maxHeartbeats 1000000 in
/-- The body at every point of the grid keeps the invariant and leaves what the proof data says. -/
theorem body_obligation (hPN : ∀ c t d, k0_pay1 (win0_0.fill (grid0.coords t) d (iblk m c 0 t)) = PN c) (c : Dev nD) :
    BodyObligationLoose (dats m PN 0 c) (defs₀ (F := F)) 𝒱₀ () Set.univ := fun t => by
  rw [bigSep_W0, bigSep_W0]
  rw [show defs₀ (F := F) .tc cfg0.body (cfg0.bodyArgs t (cfg0.slots t)) = bodyAt0 t by unfold defs₀; rw [Defs.onTc_tc]]
  change iprop(inv m PN c t.val ∗ (dats m PN 0 c).owesAt () t.castSucc
      ∗ (∃ d, po c (st0_0 t) ((dats m PN 0 c).before 0 t d))
      ∗ (∃ d, po c (st0_1 t) ((dats m PN 0 c).before 1 t d))
      ∗ (∃ d, po c (st0_2 t) ((dats m PN 0 c).before 2 t d))
      ∗ (∃ d, po c (st0_3 t) ((dats m PN 0 c).before 3 t d))
      ∗ (∃ d, po c (st0_4 t) ((dats m PN 0 c).before 4 t d))
      ∗ (∃ d, po c (st0_5 t) ((dats m PN 0 c).before 5 t d)))
    ⊢ wp frame (wpE (defs₀ (F := F)) 𝒱₀ c none) Set.univ (bodyAt0 t) fun _ =>
      iprop(inv m PN c (t.val + 1) ∗ (dats m PN 0 c).owesAt () t.castSucc
        ∗ (dats m PN 0 c).leaves 0 t ∗ (dats m PN 0 c).leaves 1 t ∗ (dats m PN 0 c).leaves 2 t
        ∗ (dats m PN 0 c).leaves 3 t ∗ (dats m PN 0 c).leaves 4 t ∗ (dats m PN 0 c).leaves 5 t)
  unfold inv
  iintro ⟨⟨%f7, %f8, %f9, %hinv, ⟨S0, S1, S2⟩, Hp⟩, Ho, ⟨%d0, H0⟩, ⟨%d1, H1⟩, ⟨%d2, H2⟩, ⟨%d3, H3⟩, ⟨%d4, H4⟩, ⟨%d5, H5⟩⟩
  obtain ⟨hX, hP, hI⟩ := hinv
  have hlt : t.val < 20 := t.isLt
  have hc := coords_val t
  rw [before_0 m PN c t d0, before_1 m PN c t d1, before_2 m PN c t d2]
  generalize hX4 : (dats m PN 0 c).before 3 t d3 = X4
  generalize hX5 : (dats m PN 0 c).before 4 t d4 = X5
  generalize hX6 : (dats m PN 0 c).before 5 t d5 = X6
  generalize hX1 : win0_0.fill (grid0.coords t) d0 (iblk m c 0 t) = X1
  have e8 : pnNew (grid0.coords t) X1 f8 = PN c :=
    invP_step (PN c) (grid0.coords t) X1 f8 (fun _ => by rw [← hX1]; exact hPN c t d0) (by rw [hc]; exact hP)
  have hX' : InvX (xb m c) (t.val + 1) (xnNew (grid0.coords t) (iblk m c 1 t) f7) := by
    have := invX_step (xb m c) (grid0.coords t) (iblk m c 1 t) f7 (fun _ => by rw [hc, xb_eq]) (by rw [hc]; exact hX)
    rw [hc] at this; exact this
  have hI' : InvI (PN c) (xb m c) (t.val + 1)
      (imgNew (grid0.coords t) (PN c) (xnNew (grid0.coords t) (iblk m c 1 t) f7) f9) := by
    have := invI_step (PN c) (xb m c) (grid0.coords t) _ (by rw [hc]; exact hX') f9 (by rw [hc]; exact hI)
    rw [hc] at this; exact this
  iapply (body_run (F := F) (grid0.coords t) c _ _ _ _ _ _ _ _ _ _ _ _ X1 (iblk m c 1 t) (iblk m c 2 t) X4 X5 X6 f7 f8 f9 _)
  rw [e8]
  generalize hG7 : xnNew (grid0.coords t) (iblk m c 1 t) f7 = g7 at hX' hI' ⊢
  generalize hG9 : imgNew (grid0.coords t) (PN c) g7 f9 = g9 at hI' ⊢
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  iintro ⟨H0, H1, H2, H3, H4, H5, S0, S1, S2⟩
  isplitl [S0 S1 S2 Hp]
  · iexists g7, PN c, g9
    isplitr
    · ipureintro
      exact ⟨hX', fun _ => rfl, hI'⟩
    isplitl [S0 S1 S2]
    · isplitl [S0]; · iexact S0
      isplitl [S1]; · iexact S1
      iexact S2
    iexact Hp
  isplitl [Ho]; · iexact Ho
  isplitl [H0]
  · iapply (leave m PN c 0 t X1 (.inr ⟨rfl, .inr ⟨rfl, d0, hX1.symm.trans
      (congrArg (win0_0.fill (grid0.coords t) d0) (win0_0.cut_fill (grid0.coords t) _ (iblk m c 0 t)).symm)⟩⟩))
    iexact H0
  isplitl [H1]
  · iapply (leave m PN c 1 t (iblk m c 1 t) (.inr ⟨rfl, .inl rfl⟩))
    iexact H1
  isplitl [H2]
  · iapply (leave m PN c 2 t (iblk m c 2 t) (.inr ⟨rfl, .inl rfl⟩))
    iexact H2
  isplitl [H3]
  · iapply (leave m PN c 3 t (bigNew (grid0.coords t) (PN c) g7 X4) (by
      by_cases hs : 4 ≤ t.val
      · refine .inr ⟨idle_false ((cond3_iff (grid0.coords t)).mpr (by rw [hc]; exact hs)), .inl ?_⟩
        rw [bigNew_eq (PN c) (xb m c) (grid0.coords t) (by rw [hc]; exact hs) g7 (by rw [hc]; exact hX'), hc]
        rfl
      · have hn : ¬ k0_cond3 (grid0.coords t) = 1#1 := fun h => hs (hc ▸ (cond3_iff (grid0.coords t)).mp h)
        refine .inl ⟨idle_true hn, flush_3_idle t hs, d3, ?_⟩
        rw [hX4]
        unfold bigNew
        rw [dif_neg hn]))
    iexact H3
  isplitl [H4]
  · iapply (leave m PN c 4 t (planesNew (grid0.coords t) g9 X5) (by
      by_cases hs : t.val = 19
      · have hy := (cond4_iff (grid0.coords t)).mpr (hc.trans hs)
        refine .inr ⟨idle_false hy, .inl ?_⟩
        unfold planesNew
        rw [if_pos hy, invI_last (PN c) (xb m c) g9 (by rw [hs] at hI'; exact hI')]
        rfl
      · have hn : ¬ k0_cond4 (grid0.coords t) = 1#1 := fun h => hs (hc ▸ (cond4_iff (grid0.coords t)).mp h)
        refine .inl ⟨idle_true hn, Bool.eq_false_iff.2 fun h => hs (by have := (flush0_4 t).mp h; omega), d4, ?_⟩
        rw [hX5]
        unfold planesNew
        rw [if_neg hn]))
    iexact H4
  · iapply (leave m PN c 5 t (scoresNew (grid0.coords t) g9 (iblk m c 2 t) X6) (by
      by_cases hs : t.val = 19
      · have hy := (cond4_iff (grid0.coords t)).mpr (hc.trans hs)
        refine .inr ⟨idle_false hy, .inl ?_⟩
        unfold scoresNew
        rw [if_pos hy, invI_last (PN c) (xb m c) g9 (by rw [hs] at hI'; exact hI')]
        rfl
      · have hn : ¬ k0_cond4 (grid0.coords t) = 1#1 := fun h => hs (hc ▸ (cond4_iff (grid0.coords t)).mp h)
        refine .inl ⟨idle_true hn, Bool.eq_false_iff.2 fun h => hs (by have := (flush0_5 t).mp h; omega), d5, ?_⟩
        rw [hX6]
        unfold scoresNew
        rw [if_neg hn]))
    iexact H5

/-- Before the first point nothing is asked of the scratch. -/
theorem inv_in (c : Dev nD) : Pipeline.ΦA spec0 c ⊢ (dats m PN 0 c).Φ 0 := by
  change Pipeline.ΦA spec0 c ⊢ inv m PN c 0
  unfold Pipeline.ΦA inv
  rw [scopedRest0_eq]
  iintro ⟨⟨⟨%f7, S0⟩, ⟨%f8, S1⟩, ⟨%f9, S2⟩⟩, Hp⟩
  iexists f7, f8, f9
  isplitr
  · ipureintro
    exact ⟨fun _ _ _ _ _ h => absurd h (by omega), fun h => absurd h (by omega), fun _ _ _ h => absurd h (by omega)⟩
  isplitl [S0 S1 S2]
  · isplitl [S0]; · iexact S0
    isplitl [S1]; · iexact S1
    iexact S2
  iexact Hp

/-- After the last point the scratch is given back. -/
theorem inv_out (c : Dev nD) : (dats m PN 0 c).Φ (Fin.last cfg0.N) ⊢ Pipeline.ΦA spec0 c := by
  change inv m PN c cfg0.N ⊢ Pipeline.ΦA spec0 c
  unfold Pipeline.ΦA inv
  rw [scopedRest0_eq]
  iintro ⟨%f7, %f8, %f9, %_, ⟨S0, S1, S2⟩, Hp⟩
  isplitl [S0 S1 S2]
  · isplitl [S0]; · iexists f7; iexact S0
    isplitl [S1]; · iexists f8; iexact S1
    iexists f9; iexact S2
  iexact Hp

set_option backward.isDefEq.respectTransparency.types false in
/-- Every run ends with the arrays as the pipeline leaves them and the rest as the host lines leave it. -/
theorem run (hPN : ∀ c t d, k0_pay1 (win0_0.fill (grid0.coords t) d (iblk m c 0 t)) = PN c) :
    θ_run defs (onTc (τ := τ) (main (F := F))) (s₀ m ρ)
      (Pipeline.FramePost cfgs (dats m PN) 0 (Pipeline.afterTail₀ cfgs (dats m PN) 0 (V0 m) [hostOps1])) :=
  Pipeline.θ_run_frame_around_track cfgs (dats m PN) (0 : Fin 1) launch0 defs₀ 𝒱₀ m ρ main
    (hbody := body_obligation m PN hPN)
    (hshare := fun c => (dats m PN 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hin := inv_in m PN) (hout := inv_out m PN)
    (Q' := Pipeline.FramePost cfgs (dats m PN) 0 (Pipeline.afterTail₀ cfgs (dats m PN) 0 (V0 m) [hostOps1]))
    (hQ' := fun _ h => h.1)

end Cert.Proof.KernelRun

end
-- ==== Proof.Payloads.lean ====
/-
  What one call of the kernel computes over the reals: every stored value read at an index.
-/
module

public import proofs.«01_k».proof.Proof.Body
public import Idealize.ShloMosaic.Lib.Pointwise

@[expose] public section

set_option maxRecDepth 16384

noncomputable section

namespace Cert.Proof.Payloads

open Cert.KernelIdeal Cert.KernelIdeal.Gen Cert.Proof.Body
open Idealize.ShloMosaic

/-- The square of the constant the lengths are bounded below by. -/
def eps2 : EReal := ((5316911940649 / 5316911983139663491615228241121378304 : ℝ) : EReal)

/-- A row times the reciprocal root of its bounded squared length. -/
def unit (x : Fin 768 → EReal) (k : Fin 768) : EReal := x k * Ideal.rsqrt (max (∑ j, x j * x j) eps2)

/-- The kernel's named constant is the square of the smallest length. -/
theorem named_eps2 : Named.named (F := Ideal) Cert.KernelIdeal.κ "eps_sq" (φ := .f32) 0x179ABE15#32 = eps2 :=
  IdealRules.named_const.ideal_named_scalar _ _ _ _ rfl

/-- The word of minus infinity. -/
theorem neg_inf : Ideal.ofBits .f32 0xFF800000#32 = (⊥ : EReal) := by simp [Ideal.ofBits, Ideal.ieee]
/-- The word of five. -/
theorem five : Ideal.ofBits .f32 0x40A00000#32 = ((5 : ℝ) : EReal) := by
  simp [Ideal.ofBits, Ideal.ieee, -EReal.coe_mul]; norm_num

/-- The chunk of tokens, row by row normalised. -/
theorem pay8_apply (X : Vec Ideal S1152x768 .f32) (r : Fin 1152) (k : Fin 768) :
    k0_pay8 X (ix2 r k) = unit (fun j => X (ix2 r j)) k := by
  pointwise [k0_pay8, unit, named_eps2]

/-- A test of a row number against the count of sub-patches. -/
theorem row_test {α : Type} (r : ℕ) (hr : r < 1024) (a b : α) :
    Scalar.select (IntOp.cmpi .slt (BitVec.ofNat 32 r) 1005#32) a b = if r < 1005 then a else b := by
  have : IntOp.cmpi .slt (BitVec.ofNat 32 r) 1005#32 = BitVec.ofBool (decide (r < 1005)) := by
    have h0 : (BitVec.ofNat 32 r).toInt = (r : ℤ) := by
      rw [BitVec.toInt_ofNat']; simp only [Int.bmod]; omega
    simp [IntOp.cmpi, BitVec.slt, h0]
  rw [this]
  by_cases h : r < 1005
  · simp [h, Scalar.select]
  · simp [h, Scalar.select]

/-- The sub-patches, row by row normalised, with zeros past row 1005. -/
theorem pay1_apply (X : Vec Ideal S1024x768 .f32) (r : Fin 1024) (k : Fin 768) :
    k0_pay1 X (ix2 r k) = if r.val < 1005 then unit (fun j => X (ix2 r j)) k else 0 := by
  pointwise [k0_pay1, unit, named_eps2]
  exact row_test r.val r.isLt _ _

/-- A block of products: the inner product of a sub-patch row and a token. -/
theorem pay3_apply (P : Vec Ideal S256x768 .bf16) (X : Vec Ideal S1x4608x768 .bf16) (r : Fin 256) (g : Fin 8) (p : Fin 576) :
    k0_pay3 P X (ix3 r g p) = ∑ k : Fin 768, P (ix2 r k) * X (ix3 0 ⟨g.val * 576 + p.val, by omega⟩ k) := by
  pointwise [k0_pay3]

/-- The block's maxima over the patches. -/
theorem pay4_apply (P : Vec Ideal S256x768 .bf16) (X : Vec Ideal S1x4608x768 .bf16) (u : Fin 1) (r : Fin 256) (g : Fin 8) :
    k0_pay4 P X (ix3 u r g) = Finset.univ.fold max (⊥ : EReal) fun p : Fin 576 => k0_pay3 P X (ix3 r g p) := by
  pointwise [k0_pay4, neg_inf]

/-- The four groups' maxima side by side, images by rows. -/
theorem pay9_apply (v0 v1 v2 v3 : Vec Ideal S1x1024x8 .f32) (n : Fin 32) (r : Fin 1024) :
    k0_pay9 v0 v1 v2 v3 (ix2 n r) =
      (if h : n.val < 8 then v0 (ix3 0 r ⟨n.val, h⟩)
        else if h : n.val - 8 < 8 then v1 (ix3 0 r ⟨n.val - 8, h⟩)
        else if h : n.val - 8 - 8 < 8 then v2 (ix3 0 r ⟨n.val - 8 - 8, h⟩)
        else v3 (ix3 0 r ⟨n.val - 8 - 8 - 8, by omega⟩)) := by
  pointwise [k0_pay9]

/-- One image's maximum at a sub-patch row. -/
def maxAt (f9 : Vec Ideal S4x1024x8 .f32) (n : Fin 32) (r : Fin 1024) : EReal :=
  f9 (ix3 ⟨n.val / 8, by omega⟩ r ⟨n.val % 8, by omega⟩)

/-- One group's slab of the buffer of maxima. -/
theorem grp_apply (f9 : Vec Ideal S4x1024x8 .f32) (g : ℕ) (h) (r : Fin 1024) (d : Fin 8) (hg : g < 4) :
    grp f9 g h (ix3 0 r d) = f9 (ix3 ⟨g, hg⟩ r d) := by
  unfold grp VecWindow.window
  congr 1
  funext k
  match k with
  | ⟨0, _⟩ => exact Fin.ext (show g + 1 * 0 = g by omega)
  | ⟨1, _⟩ => exact Fin.ext (show 0 + 1 * r.val = r.val by omega)
  | ⟨2, _⟩ => exact Fin.ext (show 0 + 1 * d.val = d.val by omega)

/-- The maxima of all images, read from the buffer. -/
theorem imgAll_apply (f9 : Vec Ideal S4x1024x8 .f32) (n : Fin 32) (r : Fin 1024) :
    imgAll f9 (ix2 n r) = maxAt f9 n r := by
  unfold imgAll
  rw [pay9_apply]
  unfold maxAt
  have hn := n.isLt
  split
  · refine (grp_apply f9 0 _ _ _ (by omega)).trans (congrArg f9 ?_)
    congr 1 <;> refine Fin.ext ?_ <;> simp only <;> omega
  · split
    · refine (grp_apply f9 1 _ _ _ (by omega)).trans (congrArg f9 ?_)
      congr 1 <;> refine Fin.ext ?_ <;> simp only <;> omega
    · split
      · refine (grp_apply f9 2 _ _ _ (by omega)).trans (congrArg f9 ?_)
        congr 1 <;> refine Fin.ext ?_ <;> simp only <;> omega
      · refine (grp_apply f9 3 _ _ _ (by omega)).trans (congrArg f9 ?_)
        congr 1 <;> refine Fin.ext ?_ <;> simp only <;> omega

/-- An entry of the matrix that picks row `5 c + j`. -/
theorem one_hot (x c j : ℕ) (hx : x < 1024) (hc : c < 201) (hj : j < 5) :
    (FloatOps.sitofp (F := Ideal) .f32 (BitVec.setWidth 32 (IntOp.cmpi .eq (BitVec.ofNat 32 x)
        (IntOp.addi (IntOp.muli 5#32 (BitVec.ofNat 32 c)) (BitVec.ofNat 32 j)))) : EReal)
      = if x = 5 * c + j then 1 else 0 := by
  have : IntOp.cmpi .eq (BitVec.ofNat 32 x) (IntOp.addi (IntOp.muli 5#32 (BitVec.ofNat 32 c)) (BitVec.ofNat 32 j))
      = BitVec.ofBool (decide (x = 5 * c + j)) := by
    simp only [IntOp.cmpi, IntOp.addi, IntOp.muli]
    congr 1
    rw [Bool.eq_iff_iff]
    simp only [beq_iff_eq, decide_eq_true_eq, ← BitVec.toNat_inj, BitVec.toNat_add, BitVec.toNat_mul, BitVec.toNat_ofNat]
    omega
  rw [this]
  by_cases h : x = 5 * c + j
  · simp [h, FloatOps.sitofp]
  · simp [h, FloatOps.sitofp]

/-- A row times the picking matrix is the picked entry. -/
theorem pick_sum (v : Fin 1024 → EReal) (c j : ℕ) (hc : c < 201) (hj : j < 5) :
    (∑ x : Fin 1024, v x * FloatOps.sitofp (F := Ideal) .f32 (BitVec.setWidth 32 (IntOp.cmpi .eq (BitVec.ofNat 32 x.val)
        (IntOp.addi (IntOp.muli 5#32 (BitVec.ofNat 32 c)) (BitVec.ofNat 32 j)))) : EReal)
      = v ⟨5 * c + j, by omega⟩ := by
  rw [Finset.sum_eq_single ⟨5 * c + j, by omega⟩]
  · rw [one_hot _ c j (by omega) hc hj, if_pos rfl, mul_one]
  · intro b _ hb
    rw [one_hot _ c j b.isLt hc hj, if_neg (fun h => hb (Fin.ext h)), mul_zero]
  · intro h; exact absurd (Finset.mem_univ _) h

/-- The first picked plane holds row `5 c`. -/
theorem pay12_apply (v0 v1 v2 v3 : Vec Ideal S1x1024x8 .f32) (n : Fin 32) (c : Fin 201) :
    k0_pay12 v0 v1 v2 v3 (ix2 n c) = k0_pay9 v0 v1 v2 v3 (ix2 n ⟨5 * c.val + 0, by omega⟩) := by
  pointwise [k0_pay12]
  exact pick_sum (fun x => k0_pay9 v0 v1 v2 v3 (ix2 n x)) c.val 0 c.isLt (by omega)

/-- The second picked plane holds row `5 c + 1`. -/
theorem pay15_apply (v) (n : Fin 32) (c : Fin 201) :
    k0_pay15 (F := Ideal) v rows cols (ix2 n c) = v (ix2 n ⟨5 * c.val + 1, by omega⟩) := by
  pointwise [k0_pay15, rows, cols]
  exact pick_sum (fun x => v (ix2 n x)) c.val 1 c.isLt (by omega)

/-- The third picked plane holds row `5 c + 2`. -/
theorem pay16_apply (v) (n : Fin 32) (c : Fin 201) :
    k0_pay16 (F := Ideal) v rows cols (ix2 n c) = v (ix2 n ⟨5 * c.val + 2, by omega⟩) := by
  pointwise [k0_pay16, rows, cols]
  exact pick_sum (fun x => v (ix2 n x)) c.val 2 c.isLt (by omega)

/-- The fourth picked plane holds row `5 c + 3`. -/
theorem pay17_apply (v) (n : Fin 32) (c : Fin 201) :
    k0_pay17 (F := Ideal) v rows cols (ix2 n c) = v (ix2 n ⟨5 * c.val + 3, by omega⟩) := by
  pointwise [k0_pay17, rows, cols]
  exact pick_sum (fun x => v (ix2 n x)) c.val 3 c.isLt (by omega)

/-- The fifth picked plane holds row `5 c + 4`. -/
theorem pay5_apply (v) (n : Fin 32) (c : Fin 201) :
    k0_pay5 (F := Ideal) v (k0_pay19 rows cols) (ix2 n c) = v (ix2 n ⟨5 * c.val + 4, by omega⟩) := by
  pointwise [k0_pay5, k0_pay19, rows, cols]
  exact pick_sum (fun x => v (ix2 n x)) c.val 4 c.isLt (by omega)

/-- The maxima by sub-patch, image and concept. -/
theorem planes_apply (f9 : Vec Ideal S4x1024x8 .f32) (j : Fin 5) (n : Fin 32) (c : Fin 201) :
    planes f9 (ix3 j n c) = maxAt f9 n ⟨5 * c.val + j.val, by omega⟩ := by
  pointwise [planes, k0_pay6]
  rw [pay12_apply, pay15_apply, pay16_apply, pay17_apply, pay5_apply]
  simp only [← imgAll_apply]
  fin_cases j <;> rfl

/-- A concept's weight of one of its sub-patches, times five. -/
def weight (X : Vec Ideal S5x200 .f32) (j : Fin 5) (c : Fin 200) : EReal :=
  Ideal.exp (X (ix2 j c) - Finset.univ.fold max ⊥ fun x : Fin 5 => X (ix2 x c))
    * Ideal.div ((5 : ℝ) : EReal) (∑ x : Fin 5, Ideal.exp (X (ix2 x c) - Finset.univ.fold max ⊥ fun x : Fin 5 => X (ix2 x c)))

/-- The kernel's weights of the sub-patches. -/
theorem pay10_apply (X : Vec Ideal S5x200 .f32) (j : Fin 5) (c : Fin 200) : k0_pay10 X (ix2 j c) = weight X j c := by
  pointwise [k0_pay10, neg_inf, five, weight]

/-- The class scores. -/
theorem scores_apply (f9 : Vec Ideal S4x1024x8 .f32) (X : Vec Ideal S5x200 .f32) (n : Fin 32) (c : Fin 200) :
    scores f9 X (ix2 n c)
      = (∑ j : Fin 5, maxAt f9 n ⟨5 * c.val + j.val, by omega⟩ * weight X j c) * ((5 : ℝ) : EReal) := by
  pointwise [scores, k0_pay7, k0_pay18, k0_pay11, k0_pay13, k0_pay14, five]
  rw [pay12_apply, pay15_apply, pay16_apply, pay17_apply, pay5_apply]
  simp only [pay10_apply, ← imgAll_apply, Fin.sum_univ_five]
  rfl

end Cert.Proof.Payloads

end
-- ==== Proof.Arrays.lean ====
/-
  What the kernel's arrays hold, element by element, over the extended reals.
-/
module

public import proofs.«01_k».proof.Proof.KernelRun
public import proofs.«01_k».proof.Proof.Payloads
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof.Arrays

open Cert.KernelIdeal Cert.KernelIdeal.Gen Cert.Proof.Body Cert.Proof.Sched Cert.Proof.KernelRun
open Idealize.ShloMosaic Idealize.ShloMosaic.TcCoe
open Idealize.ShloMosaic.Pipeline (Dat Cfg Window)

variable (m : (ℓ : Loc nD τ sig) → Buf (Elt Ideal) ℓ) (c : Dev nD)

/-- The tokens. -/
abbrev A0 : Vec Ideal S32x576x768 .f32 := m ((c : Thread nD τ).loc main_arg0)
/-- The sub-patch prototypes. -/
abbrev A1 : Vec Ideal S201x5x768 .f32 := m ((c : Thread nD τ).loc main_arg1)
/-- The sub-patch importances. -/
abbrev A2 : Vec Ideal S200x5 .f32 := m ((c : Thread nD τ).loc main_arg2)

/-- The prototypes as the call gets them: the sub-patches row after row. -/
theorem entry_1 (r : Fin 1005) (k : Fin 768) :
    V m c main_v1 (ix2 r k) = A1 m c (ix3 ⟨r.val / 5, by omega⟩ ⟨r.val % 5, by omega⟩ k) := by
  unfold V V0
  simp only [hostOps0, List.flatten_cons, List.flatten_nil, List.append_nil]
  after_reads_at

/-- The tokens as the call gets them: the images' patches row after row. -/
theorem entry_0 (r : Fin 18432) (k : Fin 768) :
    V m c main_v0 (ix2 r k) = A0 m c (ix3 ⟨r.val / 576, by omega⟩ ⟨r.val % 576, by omega⟩ k) := by
  unfold V V0
  simp only [hostOps0, List.flatten_cons, List.flatten_nil, List.append_nil]
  after_reads_at

/-- The logits as the call gets them: transposed. -/
theorem entry_2 (j : Fin 5) (k : Fin 200) :
    V m c main_v2 (ix2 j k) = A2 m c (ix2 k j) := by
  unfold V V0
  simp only [hostOps0, List.flatten_cons, List.flatten_nil, List.append_nil]
  after_reads_at

/-- The prototypes' window stays at the first block. -/
theorem index_0 : ∀ t : Fin grid0.N, win0_0.index t = ![0, 0] := by decide +kernel
/-- The tokens' window moves a chunk at a point and stays at the last from point 15 on. -/
theorem index_1 : ∀ t : Fin grid0.N, win0_1.index t = ![min t.val 15, 0] := by decide +kernel
/-- The logits' window stays at the first block. -/
theorem index_2 : ∀ t : Fin grid0.N, win0_2.index t = ![0, 0] := by decide +kernel
/-- The products' window: the tile of sub-patches runs fastest, then the group of images, four points late. -/
theorem index_3 : ∀ t : Fin grid0.N, win0_3.index t = ![(t.val - 4) % 4, (t.val - 4) / 4, 0] := by decide +kernel
/-- The window of the maxima stays at the first block. -/
theorem index_4 : ∀ t : Fin grid0.N, win0_4.index t = ![0, 0, 0] := by decide +kernel
/-- The window of the scores stays at the first block. -/
theorem index_5 : ∀ t : Fin grid0.N, win0_5.index t = ![0, 0] := by decide +kernel
/-- Of the prototypes' block the array's 1005 rows are copied. -/
theorem xsize_0 : ∀ t : Fin grid0.N, win0_0.xsize (grid0.coords t) = ![1005, 768] := by decide +kernel
/-- Of a block of products the rows inside the array are copied. -/
theorem xsize_3 : ∀ t : Fin grid0.N, win0_3.xsize (grid0.coords t) = ![min 256 (1005 - (t.val - 4) % 4 * 256), 8, 576] := by
  decide +kernel

/-- The block of logits is the third argument transposed. -/
theorem iblk_2 (t : Fin cfg0.N) (j : Fin 5) (k : Fin 200) : iblk m c 2 t (ix2 j k) = A2 m c (ix2 k j) := by
  refine Eq.trans ?_ (entry_2 m c j k)
  blk_ext [iblk, index_2 t]

/-- The block of tokens at a point, as entries of the first argument. -/
theorem iblk_1 (t : Fin cfg0.N) (ht : t.val < 16) (r : Fin 1152) (k : Fin 768) :
    iblk m c 1 t (ix2 r k) = A0 m c (ix3 ⟨(t.val * 1152 + r.val) / 576, by omega⟩ ⟨(t.val * 1152 + r.val) % 576, by omega⟩ k) := by
  refine Eq.trans ?_ (entry_0 m c ⟨t.val * 1152 + r.val, by omega⟩ k)
  blk_ext [iblk, index_1 t]

/-- The prototypes' buffer holds the array's rows, whatever it held before. -/
theorem fill_0 (t : Fin cfg0.N) (d) (r : Fin 1024) (hr : r.val < 1005) (k : Fin 768) :
    win0_0.fill (grid0.coords t) d (iblk m c 0 t) (ix2 r k) = V m c main_v1 (ix2 ⟨r.val, hr⟩ k) := by
  unfold Window.fill
  rw [dif_pos ((win0_0.moved_iff _ _).mpr fun a => by
    rw [xsize_0 t]
    match a with
    | ⟨0, _⟩ => exact hr
    | ⟨1, _⟩ => exact k.isLt)]
  blk_ext [iblk, index_0 t]

/-- A token at unit length. -/
def xhat (X : Vec Ideal S32x576x768 .f32) (n : Fin 32) (p : Fin 576) (k : Fin 768) : EReal := Payloads.unit (fun j => X (ix3 n p j)) k

/-- A sub-patch prototype, by its row among all of them, at unit length. -/
def phat (P : Vec Ideal S201x5x768 .f32) (r : Fin 1005) (k : Fin 768) : EReal :=
  Payloads.unit (fun j => P (ix3 ⟨r.val / 5, by omega⟩ ⟨r.val % 5, by omega⟩ j)) k

/-- The similarity of a patch and a sub-patch prototype. -/
def sim (X : Vec Ideal S32x576x768 .f32) (P : Vec Ideal S201x5x768 .f32) (n : Fin 32) (p : Fin 576) (r : Fin 1005) : EReal :=
  ∑ k : Fin 768, phat P r k * xhat X n p k

/-- The best similarity over an image's patches. -/
def best (X : Vec Ideal S32x576x768 .f32) (P : Vec Ideal S201x5x768 .f32) (n : Fin 32) (r : Fin 1005) : EReal :=
  Finset.univ.fold max ⊥ fun p : Fin 576 => sim X P n p r

/-- The prototypes as the kernel keeps them: rows past the last one are zero. -/
def pn : Vec Ideal S1024x768 .bf16 := fun y => if h : (y 0).val < 1005 then phat (A1 m c) ⟨(y 0).val, h⟩ (y 1) else (0 : EReal)

/-- A row of the kept prototypes: normalised, or zero past row 1005. -/
theorem pn_apply (r : Fin 1024) (k : Fin 768) :
    pn m c (ix2 r k) = if h : r.val < 1005 then phat (A1 m c) ⟨r.val, h⟩ k else (0 : EReal) := rfl

/-- Whatever the buffer holds past the array's end, the kernel keeps the same prototypes. -/
theorem pn_eq (t : Fin cfg0.N) (d) : k0_pay1 (win0_0.fill (grid0.coords t) d (iblk m c 0 t)) = pn m c := by
  funext y
  idx_vars y
  refine (Payloads.pay1_apply _ y0 y1).trans ?_
  rw [pn_apply]
  by_cases h : y0.val < 1005
  · rw [if_pos h, dif_pos h]
    unfold phat
    congr 1
    funext j
    rw [fill_0 m c t d y0 h j, entry_1]
  · rw [if_neg h, dif_neg h]

/-- A group of token chunks at unit length. -/
theorem xnGroup_apply (g : ℕ) (hg : g < 4) (d : Fin 8) (p : Fin 576) (k : Fin 768) :
    xnGroup (xb m c) g (ix3 0 ⟨d.val * 576 + p.val, by omega⟩ k) = xhat (A0 m c) ⟨8 * g + d.val, by omega⟩ p k := by
  have hq : 4 * g + (d.val * 576 + p.val) / 1152 < 16 := by omega
  change k0_pay8 (xb m c (4 * g + (d.val * 576 + p.val) / 1152)) _ = _
  refine (congrArg (k0_pay8 _) (ix2_eq_valueIdx _ _).symm).trans ?_
  refine (Payloads.pay8_apply _ _ _).trans ?_
  unfold xhat
  congr 1
  funext j
  refine (congrFun (xb_eq m c ⟨4 * g + (d.val * 576 + p.val) / 1152, by rw [N_eq]; omega⟩) _).trans ?_
  refine (iblk_1 m c _ hq _ _).trans (congrArg (A0 m c) ?_)
  congr 1 <;> refine Fin.ext ?_
  · show ((4 * g + (d.val * 576 + p.val) / 1152) * 1152 + (d.val * 576 + p.val) % 1152) / 576 = 8 * g + d.val
    omega
  · show ((4 * g + (d.val * 576 + p.val) / 1152) * 1152 + (d.val * 576 + p.val) % 1152) % 576 = p.val
    omega

/-- A block of products against one group of normalised tokens. -/
theorem pay3_group (P) (g : ℕ) (hg : g < 4) (r : Fin 256) (d : Fin 8) (p : Fin 576) :
    k0_pay3 P (xnGroup (xb m c) g) (ix3 r d p) = ∑ k : Fin 768, P (ix2 r k) * xhat (A0 m c) ⟨8 * g + d.val, by omega⟩ p k := by
  refine (Payloads.pay3_apply _ _ r d p).trans (Finset.sum_congr rfl fun k _ => ?_)
  rw [xnGroup_apply m c g hg d p k]

/-- A kept row inside the array is the normalised sub-patch. -/
theorem pn_row (r : Fin 1024) (h : r.val < 1005) (k : Fin 768) : pn m c (ix2 r k) = phat (A1 m c) ⟨r.val, h⟩ k := dif_pos h

/-- A row of a tile inside the array is the normalised sub-patch. -/
theorem pnRows_row (s : ℕ) (r : Fin 256) (h : s % 4 * 256 + r.val < 1005) (k : Fin 768) :
    pnRows (pn m c) s (ix2 r k) = phat (A1 m c) ⟨s % 4 * 256 + r.val, h⟩ k := dif_pos h

/-- The kept maxima are the best similarities. -/
theorem maxAt_img (n : Fin 32) (r : Fin 1024) (h : r.val < 1005) :
    Payloads.maxAt (img m (pn m) c) n r = best (A0 m c) (A1 m c) n ⟨r.val, h⟩ := by
  unfold Payloads.maxAt img imgVal best
  refine (congrArg (k0_pay4 _ _) (ix3_eq_valueIdx _ _ _).symm).trans ?_
  refine (Payloads.pay4_apply _ _ _ _ _).trans ?_
  congr 1
  funext p
  refine (pay3_group m c _ _ (by show n.val / 8 < 4; omega) _ _ _).trans (Finset.sum_congr rfl fun k _ => ?_)
  refine congrArg₂ (· * ·) ((pnRows_row m c _ _ (by show r.val / 256 % 4 * 256 + r.val % 256 < 1005; omega) k).trans ?_) ?_
  · congr 1; refine Fin.ext ?_; show r.val / 256 % 4 * 256 + r.val % 256 = r.val; omega
  · congr 1; refine Fin.ext ?_; show 8 * (n.val / 8) + n.val % 8 = n.val; omega

/-- The sum the kernel forms is the similarity of the rows it stands for. -/
theorem sim_of_rows (s g : ℕ) (hg : g < 4) (r : Fin 256) (d : Fin 8) (p : Fin 576) (n' : Fin 32) (p' : Fin 576) (r' : Fin 1005)
    (hr : r'.val = s % 4 * 256 + r.val) (hn : n'.val = 8 * g + d.val) (hp : p'.val = p.val) :
    ∑ k : Fin 768, pnRows (pn m c) s (ix2 r k) * xhat (A0 m c) ⟨8 * g + d.val, by omega⟩ p k
      = sim (A0 m c) (A1 m c) n' p' r' := by
  have hlt : s % 4 * 256 + r.val < 1005 := hr ▸ r'.isLt
  have hb : 8 * g + d.val < 32 := by
    clear hn
    have := d.isLt
    omega
  obtain rfl : n' = ⟨8 * g + d.val, hb⟩ := Fin.ext hn
  obtain rfl : p' = p := Fin.ext hp
  obtain rfl : r' = ⟨s % 4 * 256 + r.val, hlt⟩ := Fin.ext hr
  exact Finset.sum_congr rfl fun k _ => by rw [pnRows_row m c s r hlt k]

/-- The similarities' array after the run. -/
theorem arr_3 : (dats m (pn m) 0 c).arrAt 3 cfg0.N = fun i => sim (A0 m c) (A1 m c) (i 1) (i 2) (i 0) := by
  refine (dats m (pn m) 0 c).arrAt_eq_of_covers 3 _ (by decide +kernel) fun t hf y => ?_
  have ht : 4 ≤ t.val := by
    by_contra h
    rw [flush_3_idle t h] at hf
    exact absurd hf (by decide)
  have hN : t.val < 20 := t.isLt
  have hx := xsize_3 t
  have b0 : (y 0).val < min 256 (1005 - (t.val - 4) % 4 * 256) := lt_of_lt_of_eq (y 0).isLt (congrFun hx 0)
  have b1 : (y 1).val < 8 := lt_of_lt_of_eq (y 1).isLt (congrFun hx 1)
  have b2 : (y 2).val < 576 := lt_of_lt_of_eq (y 2).isLt (congrFun hx 2)
  have i0 : win0_3.index t 0 = (t.val - 4) % 4 := congrFun (index_3 t) 0
  have i1 : win0_3.index t 1 = (t.val - 4) / 4 := congrFun (index_3 t) 1
  have i2 : win0_3.index t 2 = 0 := congrFun (index_3 t) 2
  have e0 : ((win0_3.blk t).view.emb y 0).val = (t.val - 4) % 4 * 256 + (y 0).val := (Window.rect_emb_val win0_3 t y 0).trans (by rw [i0]; first | rfl | (show _ + _ = _; omega))
  have e1 : ((win0_3.blk t).view.emb y 1).val = (t.val - 4) / 4 * 8 + (y 1).val := (Window.rect_emb_val win0_3 t y 1).trans (by rw [i1]; first | rfl | (show _ + _ = _; omega))
  have e2 : ((win0_3.blk t).view.emb y 2).val = (y 2).val := (Window.rect_emb_val win0_3 t y 2).trans (by rw [i2, Nat.zero_mul, Nat.zero_add])
  have ex : (cfg0.win 3).xinj (cfg0.grid.coords t) y
      = ix3 (⟨(y 0).val, by omega⟩ : Fin 256) (⟨(y 1).val, b1⟩ : Fin 8) (⟨(y 2).val, b2⟩ : Fin 576) := by
    funext a
    match a with
    | ⟨0, _⟩ => rfl
    | ⟨1, _⟩ => rfl
    | ⟨2, _⟩ => rfl
  blk_simp
  rw [ex]
  exact (pay3_group m c (pnRows (pn m c) (t.val - 4)) ((t.val - 4) / 4) (by omega) _ _ _).trans
    (sim_of_rows m c (t.val - 4) _ (by omega) _ _ _ _ _ _ e0 (e1.trans (by rw [Nat.mul_comm])) e2)

/-- The last point of the grid. -/
abbrev last : Fin cfg0.N := ⟨19, by decide⟩

/-- The maxima's array after the run. -/
theorem arr_4 : (dats m (pn m) 0 c).arrAt 4 cfg0.N
    = fun i => best (A0 m c) (A1 m c) (i 1) ⟨5 * (i 2).val + (i 0).val, by
        have h2 : (i 2).val < 201 := (i 2).isLt
        have h0 : (i 0).val < 5 := (i 0).isLt
        omega⟩ := by
  refine (dats m (pn m) 0 c).arrAt_eq_of_after_last 4 last (by decide +kernel) _ fun j => ?_
  blk_simp
  idx_vars j
  refine (Payloads.planes_apply _ j0 j1 j2).trans ?_
  exact maxAt_img m c j1 _ _

/-- A concept's weight of one of its sub-patches, times five. -/
def weight (S : Vec Ideal S200x5 .f32) (k : Fin 200) (j : Fin 5) : EReal :=
  Ideal.exp (S (ix2 k j) - Finset.univ.fold max ⊥ fun x : Fin 5 => S (ix2 k x))
    * Ideal.div ((5 : ℝ) : EReal) (∑ x : Fin 5, Ideal.exp (S (ix2 k x) - Finset.univ.fold max ⊥ fun x : Fin 5 => S (ix2 k x)))

/-- The weights from the block are the weights from the third argument. -/
theorem weight_eq (t : Fin cfg0.N) (j : Fin 5) (k : Fin 200) : Payloads.weight (iblk m c 2 t) j k = weight (A2 m c) k j := by
  unfold Payloads.weight weight
  simp only [iblk_2]

/-- The scores' array after the run. -/
theorem arr_5 : (dats m (pn m) 0 c).arrAt 5 cfg0.N
    = fun i => (∑ j : Fin 5, best (A0 m c) (A1 m c) (i 0) ⟨5 * (i 1).val + j.val, by
        have h1 : (i 1).val < 200 := (i 1).isLt
        omega⟩ * weight (A2 m c) (i 1) j) * ((5 : ℝ) : EReal) := by
  refine (dats m (pn m) 0 c).arrAt_eq_of_after_last 5 last (by decide +kernel) _ fun j => ?_
  blk_simp
  idx_vars j
  refine (Payloads.scores_apply _ _ j0 j1).trans ?_
  refine congrArg (· * ((5 : ℝ) : EReal)) (Finset.sum_congr rfl fun j _ => ?_)
  exact congrArg₂ (· * ·) (maxAt_img m c j0 _ _) (weight_eq m c last j j1)

end Cert.Proof.Arrays

end
-- ==== Proof.KernelValue.lean ====
/-
  What the kernel's three results hold at the end of every run, over the extended reals.
-/
module

public import proofs.«01_k».proof.Proof.Arrays

@[expose] public section

set_option maxRecDepth 16384

noncomputable section

namespace Cert.Proof.KernelValue

open Cert.KernelIdeal Cert.KernelIdeal.Gen Cert.Proof.KernelRun Cert.Proof.Arrays
open Idealize.ShloMosaic Idealize.ShloMosaic.TcCoe Idealize.SL.Sem

/-- The similarities by image, patch, concept and sub-patch. -/
def sims (X : Vec Ideal S32x576x768 .f32) (P : Vec Ideal S201x5x768 .f32) : Vec Ideal S32x576x201x5 .f32 :=
  fun i => sim X P (i 0) (i 1) ⟨5 * (i 2).val + (i 3).val, by
    have h2 : (i 2).val < 201 := (i 2).isLt
    have h3 : (i 3).val < 5 := (i 3).isLt
    omega⟩

/-- The best similarities by image, concept and sub-patch. -/
def bests (X : Vec Ideal S32x576x768 .f32) (P : Vec Ideal S201x5x768 .f32) : Vec Ideal S32x201x5 .f32 :=
  fun i => best X P (i 0) ⟨5 * (i 1).val + (i 2).val, by
    have h2 : (i 1).val < 201 := (i 1).isLt
    have h3 : (i 2).val < 5 := (i 2).isLt
    omega⟩

/-- The class scores by image and class. -/
def classes (X : Vec Ideal S32x576x768 .f32) (P : Vec Ideal S201x5x768 .f32) (S : Vec Ideal S200x5 .f32) : Vec Ideal S32x200 .f32 :=
  fun i => (∑ j : Fin 5, best X P (i 0) ⟨5 * (i 1).val + j.val, by
    have h1 : (i 1).val < 200 := (i 1).isLt
    omega⟩ * weight S (i 1) j) * ((5 : ℝ) : EReal)

variable (m : (ℓ : Loc nD τ sig) → Buf (Elt Ideal) ℓ) (c : Dev nD)

/-- The windows stage different arrays. -/
theorem arr_inj : Function.Injective (Pipeline.arrRef spec0) := by decide

/-- After the call its first result's array holds the pipeline's array. -/
theorem at_3 (W : Valuation τ sig (Elt Ideal)) (A : (w : Fin 6) → Buf (Elt Ideal) ((spec0 w).arr.view.loc (c.tc : Thread nD τ))) :
    Pipeline.withArrays spec0 c W A (Proc.devRef .tc main_v3_0) = A 3 :=
  Pipeline.withArrays_arr spec0 arr_inj c W A 3

/-- After the call its second result's array holds the pipeline's array. -/
theorem at_4 (W : Valuation τ sig (Elt Ideal)) (A : (w : Fin 6) → Buf (Elt Ideal) ((spec0 w).arr.view.loc (c.tc : Thread nD τ))) :
    Pipeline.withArrays spec0 c W A (Proc.devRef .tc main_v3_1) = A 4 :=
  Pipeline.withArrays_arr spec0 arr_inj c W A 4

/-- The host lines after the launch read the similarities' array, -/
theorem read_3 : Pipeline.withArrays (cfgs 0).spec c (V0 m c) (fun w => (dats m (pn m) 0 c).arrAt w (cfgs 0).N)
      (Proc.tc.devRef main_v3_0) = (dats m (pn m) 0 c).arrAt 3 cfg0.N :=
  at_3 c (V0 m c) (fun w => (dats m (pn m) 0 c).arrAt w (cfgs 0).N)

/-- and the maxima's. -/
theorem read_4 : Pipeline.withArrays (cfgs 0).spec c (V0 m c) (fun w => (dats m (pn m) 0 c).arrAt w (cfgs 0).N)
      (Proc.tc.devRef main_v3_1) = (dats m (pn m) 0 c).arrAt 4 cfg0.N :=
  at_4 c (V0 m c) (fun w => (dats m (pn m) 0 c).arrAt w (cfgs 0).N)

/-- Every run ends with the three results at these values and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v5) = sims (A0 m c) (A1 m c)
      ∧ r.2.mem ((c.tc : Thread nD τ).loc main_v6) = bests (A0 m c) (A1 m c)
      ∧ r.2.mem ((c.tc : Thread nD τ).loc main_v3_2) = classes (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (KernelRun.run m ρ (pn m) (pn_eq m)) fun r h c => ?_
  refine ⟨?_, ?_, ?_, ?_, ?_, ?_⟩
  · refine ((h c).2 main_v5 (Pipeline.mem_restRefs_of _ (by decide) (by decide))).trans ?_
    unfold Pipeline.afterTail₀
    funext i
    idx_vars i
    simp only [hostOps1, List.flatten_cons, List.flatten_nil, List.append_nil]
    after_reads_at
    rw [read_3 m c, arr_3 m c]
    have e : i2.val * 5 + i3.val = 5 * i2.val + i3.val := by omega
    exact congrArg (sim (A0 m c) (A1 m c) i0 i1) (Fin.ext e)
  · refine ((h c).2 main_v6 (Pipeline.mem_restRefs_of _ (by decide) (by decide))).trans ?_
    unfold Pipeline.afterTail₀
    funext i
    idx_vars i
    simp only [hostOps1, List.flatten_cons, List.flatten_nil, List.append_nil]
    after_reads_at
    rw [read_4 m c, arr_4 m c]
    rfl
  · exact ((h c).1 5).trans (arr_5 m c)
  · exact ((h c).2 main_arg0 (Pipeline.mem_restRefs_of _ (by decide) (by decide))).trans (W_main_arg0 m _ c)
  · exact ((h c).2 main_arg1 (Pipeline.mem_restRefs_of _ (by decide) (by decide))).trans (W_main_arg1 m _ c)
  · exact ((h c).2 main_arg2 (Pipeline.mem_restRefs_of _ (by decide) (by decide))).trans (W_main_arg2 m _ c)

end Cert.Proof.KernelValue

end
-- ==== Proof.Reference.lean ====
/-
  What the reference's lines compute, element by element, over the extended reals.
-/
module

public import proofs.«01_k».proof.Proof.KernelValue
public import proofs.«01_k».proof.Proof.Gen.ReferenceIdeal
public import proofs.«01_k».proof.Proof.Gen.ReferenceIdeal.Run

@[expose] public section

set_option maxRecDepth 16384

noncomputable section

namespace Cert.Proof.Reference

open Cert.ReferenceIdeal Cert.ReferenceIdeal.Gen
open Idealize.ShloMosaic Idealize.ShloMosaic.TcCoe Idealize.SL.Sem

/-- The smallest norm divided by. -/
def eps : EReal := Ideal.ofBits .f32 0x2B8CBCCC#32

/-- The tokens divided by their norms. -/
def ux (X : FVec Ideal S32x576x768 .f32) : FVec Ideal S32x576x768 .f32 :=
  Host.divf X (broadcastInDim S32x576x768 ![0, 1, 2] bcast_S32x576x1_S32x576x768_0_1_2 (maximumf (Host.sqrt (broadcastInDim S32x576x1 ![0, 1] bcast_S32x576_S32x576x1_0_1 (Host.reduceAdd (mulf X X) (constant S_ .f32 0x00000000#32) reducesTo_S32x576x768_S32x576_d2 h_S_))) (broadcastInDim S32x576x1 ![] bcast_S_S32x576x1 (constant S_ .f32 0x2B8CBCCC#32))))

/-- The prototypes divided by their norms. -/
def up (P : FVec Ideal S201x5x768 .f32) : FVec Ideal S201x5x768 .f32 :=
  Host.divf P (broadcastInDim S201x5x768 ![0, 1, 2] bcast_S201x5x1_S201x5x768_0_1_2 (maximumf (Host.sqrt (broadcastInDim S201x5x1 ![0, 1] bcast_S201x5_S201x5x1_0_1 (Host.reduceAdd (mulf P P) (constant S_ .f32 0x00000000#32) reducesTo_S201x5x768_S201x5_d2 h_S_))) (broadcastInDim S201x5x1 ![] bcast_S_S201x5x1 (constant S_ .f32 0x2B8CBCCC#32))))

/-- The similarities. -/
def dots (X : FVec Ideal S32x576x768 .f32) (P : FVec Ideal S201x5x768 .f32) : FVec Ideal S32x576x201x5 .f32 :=
  Host.dotGeneral dot_S32x576x768_S201x5x768_S32x576x201x5_2_2_01_01_n_n none (ux X) (up P)

/-- Their maxima over the patches. -/
def tops (X : FVec Ideal S32x576x768 .f32) (P : FVec Ideal S201x5x768 .f32) : FVec Ideal S32x201x5 .f32 :=
  Host.reduce FloatOps.maximumf (dots X P) (constant S_ .f32 0xFF800000#32) reducesTo_S32x576x201x5_S32x201x5_d1 h_S_

/-- The exponentials of the importances less their row's maximum. -/
def exps (S : FVec Ideal S200x5 .f32) : FVec Ideal S200x5 .f32 :=
  Host.exp (subf S (broadcastInDim S200x5 ![0, 1] bcast_S200x1_S200x5_0_1 (broadcastInDim S200x1 ![0] bcast_S200_S200x1_0 (maximumf (broadcastInDim S200 ![] bcast_S_S200 (constant S_ .f32 0xFF800000#32)) (Host.reduce FloatOps.maximumf S (constant S_ .f32 0xFF800000#32) reducesTo_S200x5_S200_d1 h_S_)))))

/-- The weights: the exponentials over their sum, times five. -/
def wts (S : FVec Ideal S200x5 .f32) : FVec Ideal S200x5 .f32 :=
  mulf (Host.divf (exps S) (broadcastInDim S200x5 ![0, 1] bcast_S200x1_S200x5_0_1 (broadcastInDim S200x1 ![0] bcast_S200_S200x1_0 (Host.reduceAdd (exps S) (constant S_ .f32 0x00000000#32) reducesTo_S200x5_S200_d1 h_S_)))) (broadcastInDim S200x5 ![] bcast_S_S200x5 (constant S_ .f32 0x40A00000#32))

/-- The temperature. -/
def temp : FVec Ideal S_ .f32 := Host.divf (constant S_ .f32 0x3F800000#32) (constant S_ .f32 0x40A00000#32)

/-- The class scores, of maxima, weights and a temperature. -/
def score (T : FVec Ideal S32x201x5 .f32) (W : FVec Ideal S200x5 .f32) (t : FVec Ideal S_ .f32) : FVec Ideal S32x200 .f32 :=
  Host.divf (Host.reduceAdd (mulf (extractStridedSlice S32x200x5 ![0, 0, 0] T slices_S32x201x5_S32x200x5_0_0_0) (broadcastInDim S32x200x5 ![0, 1, 2] bcast_S1x200x5_S32x200x5_0_1_2 (broadcastInDim S1x200x5 ![1, 2] bcast_S200x5_S1x200x5_1_2 W))) (constant S_ .f32 0x00000000#32) reducesTo_S32x200x5_S32x200_d2 h_S_) (broadcastInDim S32x200 ![] bcast_S_S32x200 t)

/-- A token entry over its length held away from zero. -/
theorem ux_apply (X) (n : Fin 32) (p : Fin 576) (k : Fin 768) :
    ux X (ix3 n p k) = Ideal.div (X (ix3 n p k)) (max (Ideal.sqrt (∑ x : Fin 768, X (ix3 n p x) * X (ix3 n p x))) eps) := by
  pointwise [ux, eps]

/-- A prototype entry over its length held away from zero. -/
theorem up_apply (P) (c : Fin 201) (j : Fin 5) (k : Fin 768) :
    up P (ix3 c j k) = Ideal.div (P (ix3 c j k)) (max (Ideal.sqrt (∑ x : Fin 768, P (ix3 c j x) * P (ix3 c j x))) eps) := by
  pointwise [up, eps]

/-- A similarity is an inner product. -/
theorem dots_apply (X P) (n : Fin 32) (p : Fin 576) (c : Fin 201) (j : Fin 5) :
    dots X P (ix4 n p c j) = ∑ x : Fin 768, ux X (ix3 n p x) * up P (ix3 c j x) := by
  pointwise [dots]

/-- An image's similarity is the largest over its patches. -/
theorem tops_apply (X P) (n : Fin 32) (c : Fin 201) (j : Fin 5) :
    tops X P (ix3 n c j) = Finset.univ.fold max ⊥ fun p : Fin 576 => dots X P (ix4 n p c j) := by
  pointwise [tops, Payloads.neg_inf]

/-- The exponential of a logit less its row's maximum. -/
theorem exps_apply (S) (k : Fin 200) (j : Fin 5) :
    exps S (ix2 k j) = Ideal.exp (S (ix2 k j) - Finset.univ.fold max ⊥ fun x : Fin 5 => S (ix2 k x)) := by
  pointwise [exps, Payloads.neg_inf]
  rw [max_eq_right bot_le]

/-- A weight: the softmax of the row, times five. -/
theorem wts_apply (S) (k : Fin 200) (j : Fin 5) :
    wts S (ix2 k j) = Ideal.div (exps S (ix2 k j)) (∑ x : Fin 5, exps S (ix2 k x)) * ((5 : ℝ) : EReal) := by
  pointwise [wts, Payloads.five]

/-- The temperature is the quotient of one and five. -/
theorem temp_apply : temp ix0 = Ideal.div (Ideal.ofBits .f32 0x3F800000#32) ((5 : ℝ) : EReal) := by
  pointwise [temp, Payloads.five]

/-- A class score: the weighted sum of the class's entries over the temperature. -/
theorem score_apply (T W t) (n : Fin 32) (k : Fin 200) :
    score T W t (ix2 n k) = Ideal.div (∑ x : Fin 5, T (ix3 n ⟨k.val, by omega⟩ x) * W (ix2 k x)) (t ix0) := by
  pointwise [score]

/-- The reference runs, and ends with these terms of its arguments as results and the arguments unchanged. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = dots (m ((c.tc : Thread nD τ).loc main_arg0)) (m ((c.tc : Thread nD τ).loc main_arg1))
      ∧ r.2.mem ((c.tc : Thread nD τ).loc main_v11) = tops (m ((c.tc : Thread nD τ).loc main_arg0)) (m ((c.tc : Thread nD τ).loc main_arg1))
      ∧ r.2.mem ((c.tc : Thread nD τ).loc main_v33)
        = score (tops (m ((c.tc : Thread nD τ).loc main_arg0)) (m ((c.tc : Thread nD τ).loc main_arg1)))
            (wts (m ((c.tc : Thread nD τ).loc main_arg2))) temp
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.ReferenceIdeal.Value.run (F := Ideal) m ρ

end Cert.Proof.Reference

end
-- ==== Proof.Equation.lean ====
/-
  The kernel's expressions and the reference's are equal, over the extended reals.
-/
module

public import proofs.«01_k».proof.Proof.Reference

@[expose] public section

set_option maxRecDepth 16384

noncomputable section

namespace Cert.Proof.Equation

open Cert.ReferenceIdeal Cert.Proof.Reference Cert.Proof.Arrays Cert.Proof.KernelValue
open Idealize.ShloMosaic

/-- The smallest norm divided by, as a real. -/
abbrev e : ℝ := 2305843 / 2305843009213693952

/-- It is positive. -/
theorem e_pos : 0 < e := by norm_num

/-- The reference's smallest length is this real. -/
theorem eps_eq : eps = ((e : ℝ) : EReal) := by
  simp [eps, Ideal.ofBits, Ideal.ieee, e, -EReal.coe_mul]; norm_num

/-- The kernel's constant is its square. -/
theorem eps2_eq : Payloads.eps2 = ((e * e : ℝ) : EReal) := by
  unfold Payloads.eps2
  congr 1
  norm_num

/-- A square is not negative, at the infinities neither. -/
theorem sq_nonneg (x : EReal) : 0 ≤ x * x := by
  induction x with
  | bot => simp
  | coe r => exact_mod_cast mul_self_nonneg r
  | top => simp

/-- Dividing by a norm held away from zero is multiplying by the reciprocal root of its square held away from zero. -/
theorem unit_eq (x : Fin 768 → EReal) (k : Fin 768) :
    Ideal.div (x k) (max (Ideal.sqrt (∑ j, x j * x j)) eps) = Payloads.unit x k := by
  unfold Payloads.unit
  rw [eps_eq, eps2_eq]
  have h0 : 0 ≤ ∑ j, x j * x j := Finset.sum_nonneg fun j _ => sq_nonneg (x j)
  generalize ∑ j, x j * x j = s at h0 ⊢
  induction s with
  | bot => exact absurd h0 (by simp)
  | top =>
    have h1 : Ideal.sqrt ⊤ = ⊤ := rfl
    have h2 : Ideal.rsqrt ⊤ = 0 := rfl
    rw [h1, max_eq_left le_top, max_eq_left le_top, h2]
    simp [Ideal.div]
  | coe r =>
    have hr : 0 ≤ r := by exact_mod_cast h0
    have hm : max (Real.sqrt r) e = Real.sqrt (max r (e * e)) := by
      rw [Real.sqrt_monotone.map_max, Real.sqrt_mul_self e_pos.le]
    have hp : 0 < max (Real.sqrt r) e := lt_max_of_lt_right e_pos
    have hq : 0 < max r (e * e) := lt_max_of_lt_right (mul_pos e_pos e_pos)
    have h1 : Ideal.sqrt (r : EReal) = ((Real.sqrt r : ℝ) : EReal) := if_neg hr.not_gt
    have h2 : Ideal.rsqrt ((max r (e * e) : ℝ) : EReal) = (((Real.sqrt (max r (e * e)))⁻¹ : ℝ) : EReal) :=
      (if_neg hq.not_gt).trans (if_neg hq.ne')
    rw [h1, ← EReal.coe_strictMono.monotone.map_max, ← EReal.coe_strictMono.monotone.map_max, h2, ← hm]
    unfold Ideal.div
    rw [if_neg (by exact_mod_cast hp.ne'), EReal.coe_inv]

/-- The kernel's normalised sub-patch is the reference's. -/
theorem phat_eq (P : FVec Ideal S201x5x768 .f32) (c : Fin 201) (j : Fin 5) (h : 5 * c.val + j.val < 1005) (k : Fin 768) :
    phat P ⟨5 * c.val + j.val, h⟩ k = up P (ix3 c j k) := by
  rw [up_apply]
  refine Eq.trans ?_ (unit_eq (fun x => P (ix3 c j x)) k).symm
  unfold phat
  have e1 : (5 * c.val + j.val) / 5 = c.val := by omega
  have e2 : (5 * c.val + j.val) % 5 = j.val := by omega
  congr 1
  funext x
  refine congrArg P ?_
  exact congrArg₂ (fun a b => ix3 a b x) (Fin.ext e1) (Fin.ext e2)

/-- The kernel's normalised token is the reference's. -/
theorem xhat_eq (X : FVec Ideal S32x576x768 .f32) (n : Fin 32) (p : Fin 576) (k : Fin 768) :
    xhat X n p k = ux X (ix3 n p k) := by
  rw [ux_apply]
  exact (unit_eq (fun x => X (ix3 n p x)) k).symm

/-- An entry of the kernel's similarities is the reference's. -/
theorem sim_eq (X P) (n : Fin 32) (p : Fin 576) (c : Fin 201) (j : Fin 5) (h : 5 * c.val + j.val < 1005) :
    sim X P n p ⟨5 * c.val + j.val, h⟩ = dots X P (ix4 n p c j) := by
  rw [dots_apply]
  unfold sim
  exact Finset.sum_congr rfl fun k _ => by rw [phat_eq, xhat_eq, mul_comm]

/-- An entry of the kernel's maxima is the reference's. -/
theorem best_eq (X P) (n : Fin 32) (c : Fin 201) (j : Fin 5) (h : 5 * c.val + j.val < 1005) :
    best X P n ⟨5 * c.val + j.val, h⟩ = tops X P (ix3 n c j) := by
  rw [tops_apply]
  unfold best
  congr 1
  funext p
  exact sim_eq X P n p c j h

/-- The first results are equal. -/
theorem sims_eq (X P) : sims X P = dots X P := by
  funext i
  idx_vars i
  exact sim_eq X P i0 i1 i2 i3 _

/-- The second results are equal. -/
theorem bests_eq (X P) : bests X P = tops X P := by
  funext i
  idx_vars i
  exact best_eq X P i0 i1 i2 _

/-- The maximum of a row. -/
abbrev rowMax (S : FVec Ideal S200x5 .f32) (k : Fin 200) : EReal := Finset.univ.fold max ⊥ fun x : Fin 5 => S (ix2 k x)

/-- A row's maximum that is not minus infinity is one of its entries. -/
theorem rowMax_mem (S : FVec Ideal S200x5 .f32) (k : Fin 200) (h : rowMax S k ≠ ⊥) : ∃ j : Fin 5, S (ix2 k j) = rowMax S k := by
  have e : rowMax S k = Finset.univ.sup fun x : Fin 5 => S (ix2 k x) := rfl
  obtain ⟨j, -, hj⟩ := Finset.exists_mem_eq_sup Finset.univ Finset.univ_nonempty fun x : Fin 5 => S (ix2 k x)
  exact ⟨j, by rw [e, hj]⟩

/-- An exponential is not negative. -/
theorem exp_nonneg (x : EReal) : 0 ≤ Ideal.exp x := by
  induction x with
  | bot => exact le_rfl
  | coe r => exact EReal.coe_nonneg.mpr (Real.exp_pos r).le
  | top => exact le_top

/-- Where the row's maximum is a real number, the kernel's weight is the reference's. -/
theorem weight_eq (S : FVec Ideal S200x5 .f32) (k : Fin 200) (j : Fin 5) (hb : rowMax S k ≠ ⊥) (ht : rowMax S k ≠ ⊤) :
    weight S k j = wts S (ix2 k j) := by
  rw [wts_apply]
  simp only [exps_apply]
  unfold weight
  obtain ⟨i, hi⟩ := rowMax_mem S k hb
  have hS : (∑ x : Fin 5, Ideal.exp (S (ix2 k x) - rowMax S k)) ≠ 0 := by
    have h1 : Ideal.exp (S (ix2 k i) - rowMax S k) = 1 := by
      rw [hi, EReal.sub_self ht hb]
      change ((Real.exp 0 : ℝ) : EReal) = 1
      simp
    have h2 := Finset.single_le_sum (f := fun x : Fin 5 => Ideal.exp (S (ix2 k x) - rowMax S k))
      (fun x _ => exp_nonneg _) (Finset.mem_univ i)
    rw [h1] at h2
    exact (zero_lt_one.trans_le h2).ne'
  change Ideal.exp (S (ix2 k j) - rowMax S k) * Ideal.div _ (∑ x : Fin 5, Ideal.exp (S (ix2 k x) - rowMax S k))
    = Ideal.div (Ideal.exp (S (ix2 k j) - rowMax S k)) (∑ x : Fin 5, Ideal.exp (S (ix2 k x) - rowMax S k)) * _
  unfold Ideal.div
  rw [if_neg hS, if_neg hS, mul_assoc, mul_comm (((5 : ℝ) : EReal))]

/-- The temperature is one fifth. -/
theorem temp_eq : temp ix0 = ((1 / 5 : ℝ) : EReal) := by
  have h1 : Ideal.ofBits .f32 0x3F800000#32 = ((1 : ℝ) : EReal) := by
    simp [Ideal.ofBits, Ideal.ieee, -EReal.coe_mul]; norm_num
  rw [temp_apply, h1, Ideal.div_coe]
  all_goals norm_num

/-- The third results are equal where every row of the logits has a real maximum. -/
theorem classes_eq (X P S) (h : ∀ k, rowMax S k ≠ ⊥ ∧ rowMax S k ≠ ⊤) : classes X P S = score (tops X P) (wts S) temp := by
  funext i
  idx_vars i
  rw [score_apply, temp_eq]
  unfold Ideal.div
  rw [if_neg (by exact_mod_cast (by norm_num : (1 / 5 : ℝ) ≠ 0)), ← EReal.coe_inv]
  have h5 : (1 / 5 : ℝ)⁻¹ = 5 := by norm_num
  rw [h5]
  unfold classes
  refine congrArg (· * ((5 : ℝ) : EReal)) ?_
  refine Finset.sum_congr rfl fun j _ => ?_
  rw [← weight_eq S i1 j (h i1).1 (h i1).2]
  refine congrArg (· * weight S i1 j) ?_
  exact best_eq X P i0 ⟨i1.val, by omega⟩ j _

end Cert.Proof.Equation

end
-- ==== Proof.Precondition.lean ====
/-
  What the precondition says of the third argument: every row has a maximum that is neither infinity.
-/
module

public import proofs.«01_k».proof.Proof.Equation
public import proofs.«01_k».proof.Pre_rows_have_a_maximum

@[expose] public section

set_option maxRecDepth 16384

noncomputable section

namespace Cert.Proof.Precondition

open Idealize.ShloMosaic Cert.Pre_rows_have_a_maximum
variable [Cert.Pre_rows_have_a_maximum.Facts]

/-- The word of plus infinity. -/
theorem top_bits : Ideal.ofBits .f32 0x7F800000#32 = (⊤ : EReal) := by simp [Ideal.ofBits, Ideal.ieee]

/-- Where a conjunction over all rows is one, it is one at every row. -/
theorem fold_andi {ι : Type} [DecidableEq ι] (s : Finset ι) (f : ι → BitVec 1) (h : s.fold IntOp.andi 1#1 f = 1#1) : ∀ i ∈ s, f i = 1#1 := by
  induction s using Finset.induction_on with
  | empty => simp
  | insert a s ha ih =>
    rw [Finset.fold_insert ha] at h
    obtain ⟨h1, h2⟩ := IntOp.andi_eq_one.mp h
    intro i hi
    rcases Finset.mem_insert.mp hi with rfl | hi
    · exact h1
    · exact ih h2 i hi

/-- Where the precondition holds, no row's maximum is an infinity. -/
theorem row (X P S) (h : Cert.Pre_rows_have_a_maximum.fn (F := Ideal) X P S = fun _ => 1#1) (k : Fin 200) :
    Equation.rowMax S k ≠ ⊥ ∧ Equation.rowMax S k ≠ ⊤ := by
  have h0 := congrFun h ix0
  revert h0
  pointwise [Cert.Pre_rows_have_a_maximum.fn, Payloads.neg_inf, top_bits]
  intro h0
  obtain ⟨h1, h2⟩ := IntOp.andi_eq_one.mp (fold_andi _ _ h0 k (Finset.mem_univ k))
  have bit : ∀ b : Bool, BitVec.ofBool b = 1#1 → b = true := by decide
  exact ⟨(of_decide_eq_true (bit _ h1)).ne', (of_decide_eq_true (bit _ h2)).ne⟩

end Cert.Proof.Precondition

end
-- ==== Proof.lean ====
module

public import proofs.«01_k».proof.Defs
public import proofs.«01_k».proof.Proof.KernelFrame
public import proofs.«01_k».proof.Proof.KernelIdealFrame
public import proofs.«01_k».proof.Proof.Gen.ReferenceIdeal
public import proofs.«01_k».proof.Proof.Gen.ReferenceIdeal.Run
public import proofs.«01_k».proof.Proof.Gen.Pre_rows_have_a_maximum
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel: every run ends, the arguments unchanged, the counters at zero. -/
theorem frame_p : Cert.quiescent_Kernel := fun m ρ _ => KernelFrame.frame_run (F := Bits) m ρ

/-- The kernel with its constants named: the same, over the extended reals. -/
theorem frame_pi : Cert.quiescent_KernelIdeal := fun m ρ _ => KernelIdealFrame.frame_run (F := Ideal) m ρ

/-- The reference: the same. -/
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The constant the kernel names is read as the square of the reference's smallest norm. -/
theorem preserves : Cert.preserves_Kernel_KernelIdeal :=
  IdealRules.named_const.statement Cert.KernelIdeal.κ "eps_sq" .f32 0x179ABE15#32 ((5316911940649 / 5316911983139663491615228241121378304 : ℝ) : EReal) rfl

/-- Where every row of the weights' logits has a maximum, the kernel and the reference, run from equal arguments, leave equal results:
    the similarities, their maxima over the patches and the class scores. -/
theorem algebraic : Cert.algebraic_KernelIdeal_ReferenceIdeal_pre_rows_have_a_maximum := by
  intro m g m' g' hpre hagree
  refine ⟨fun c => KernelValue.sims (Arrays.A0 m c) (Arrays.A1 m c), fun c => KernelValue.bests (Arrays.A0 m c) (Arrays.A1 m c),
    fun c => KernelValue.classes (Arrays.A0 m c) (Arrays.A1 m c) (Arrays.A2 m c), KernelValue.kernel_run m g, ?_⟩
  refine (θ_run Cert.ReferenceIdeal.defs _ _).mono (fun r h c => ?_) (Reference.reference_run m' g')
  obtain ⟨e0, e1, e2⟩ := hagree c
  obtain ⟨h1, h2, h3, h4⟩ := h c
  rw [e0, e1] at h1 h2 h3
  rw [e2] at h3
  exact ⟨h1.trans (Equation.sims_eq _ _).symm, h2.trans (Equation.bests_eq _ _).symm,
    h3.trans (Equation.classes_eq _ _ _ (Precondition.row _ _ _ (hpre c))).symm, h4⟩

/-- All the claims, with the facts the programs and the precondition state. -/
theorem claim : Cert.Claim := ⟨Cert.Kernel.Gen.facts, Cert.KernelIdeal.Gen.facts, Cert.ReferenceIdeal.Gen.facts,
  Cert.Pre_rows_have_a_maximum.Gen.facts, frame_p, frame_pi, fun m ρ _ => frame_pi m ρ trivial, frame_ri, fun m ρ _ => frame_ri m ρ trivial,
  preserves, algebraic⟩

end Cert.Proof

end
